-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S57x1024x4096 : Shape := ⟨3, ![57, 1024, 4096]⟩
abbrev S4096 : Shape := ⟨1, ![4096]⟩
abbrev S57x1024 : Shape := ⟨2, ![57, 1024]⟩
abbrev S1x4096 : Shape := ⟨2, ![1, 4096]⟩
abbrev S57x1x1024 : Shape := ⟨3, ![57, 1, 1024]⟩
abbrev S1x256x4096 : Shape := ⟨3, ![1, 256, 4096]⟩
abbrev S8x1024 : Shape := ⟨2, ![8, 1024]⟩
abbrev S1x1x256 : Shape := ⟨3, ![1, 1, 256]⟩
abbrev S256x4096 : Shape := ⟨2, ![256, 4096]⟩
abbrev S256x128 : Shape := ⟨2, ![256, 128]⟩
abbrev S8x4096 : Shape := ⟨2, ![8, 4096]⟩
abbrev S8x128 : Shape := ⟨2, ![8, 128]⟩
abbrev S128 : Shape := ⟨1, ![128]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S4x8x128 : Shape := ⟨3, ![4, 8, 128]⟩
abbrev S256 : Shape := ⟨1, ![256]⟩
abbrev S256x1 : Shape := ⟨2, ![256, 1]⟩
abbrev S1x1x128 : Shape := ⟨3, ![1, 1, 128]⟩

abbrev nBuf : Space → Nat
  | .hbm => 8
  | .vmem => 17
  | .smem => 0
  | _ => 0

abbrev bufTy : (tb : Table) → Fin (tcTables nBuf tb) → BufTy
  | .hbm, ⟨0, _⟩ => ⟨S57x1024x4096, .bf16⟩
  | .hbm, ⟨1, _⟩ => ⟨S57x1024x4096, .bf16⟩
  | .hbm, ⟨2, _⟩ => ⟨S4096, .f32⟩
  | .hbm, ⟨3, _⟩ => ⟨S57x1024, .f32⟩
  | .hbm, ⟨4, _⟩ => ⟨S1x4096, .f32⟩
  | .hbm, ⟨5, _⟩ => ⟨S1x4096, .f32⟩
  | .hbm, ⟨6, _⟩ => ⟨S57x1024x4096, .fp8e5m2⟩
  | .hbm, ⟨7, _⟩ => ⟨S57x1x1024, .f32⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x4096, .f32⟩
  | .local _ .vmem, ⟨5, _⟩ => ⟨S8x1024, .f32⟩
  | .local _ .vmem, ⟨6, _⟩ => ⟨S8x1024, .f32⟩
  | .local _ .vmem, ⟨7, _⟩ => ⟨S1x4096, .f32⟩
  | .local _ .vmem, ⟨8, _⟩ => ⟨S1x256x4096, .fp8e5m2⟩
  | .local _ .vmem, ⟨9, _⟩ => ⟨S1x256x4096, .fp8e5m2⟩
  | .local _ .vmem, ⟨10, _⟩ => ⟨S1x1x256, .f32⟩
  | .local _ .vmem, ⟨11, _⟩ => ⟨S1x1x256, .f32⟩
  | .local _ .vmem, ⟨12, _⟩ => ⟨S256x4096, .f32⟩
  | .local _ .vmem, ⟨13, _⟩ => ⟨S256x4096, .f32⟩
  | .local _ .vmem, ⟨14, _⟩ => ⟨S256x128, .f32⟩
  | .local _ .vmem, ⟨15, _⟩ => ⟨S256x128, .f32⟩
  | .local _ .vmem, ⟨16, _⟩ => ⟨S8x4096, .f32⟩
  | _, _ => ⟨S57x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![57, 4], ![false, false]⟩

def k0_mult1 (i : grid0.Coords) : BitVec 32 :=
  let arg1 : BitVec 32 := BitVec.ofNat 32 (i 1).val
  let c256_i32 : BitVec 32 := 256#32
  let v21 : BitVec 32 := Scalar.muli arg1 c256_i32
  let c0_i32_6 : BitVec 32 := 0#32
  let v22 : BitVec 32 := Scalar.addi v21 c0_i32_6
  v22
def k0_off1 (i : grid0.Coords) (c0_i32_6 : BitVec 32) : Fin 2 → Nat :=
  let c0 : Index := 0#32
  let arg1 : BitVec 32 := BitVec.ofNat 32 (i 1).val
  let c256_i32 : BitVec 32 := 256#32
  let v21 : BitVec 32 := Scalar.muli arg1 c256_i32
  let v22 : BitVec 32 := Scalar.addi v21 c0_i32_6
  let v23 : BitVec 32 := v22
  let v24 : Index := Scalar.indexCast v23
  ![0, v24.toNat]
def k0_mult2 (i : grid0.Coords) : BitVec 32 :=
  let arg1 : BitVec 32 := BitVec.ofNat 32 (i 1).val
  let c256_i32_10 : BitVec 32 := 256#32
  let v36 : BitVec 32 := Scalar.muli arg1 c256_i32_10
  let c128_i32 : BitVec 32 := 128#32
  let v37 : BitVec 32 := Scalar.addi v36 c128_i32
  v37
@[reducible] def k0_t1_loop : Scf.Loop 32 :=
  let c0_i32_15 : BitVec 32 := 0#32
  let c8_i32_16 : BitVec 32 := 8#32
  let v51 : BitVec 32 := Scalar.addi c0_i32_15 c8_i32_16
  let c1_i32_17 : BitVec 32 := 1#32
  ⟨c0_i32_15, v51, c1_i32_17⟩
def k0_mult3 (k0_t1 : Fin k0_t1_loop.trips) : BitVec 32 :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  v201
def k0_off2 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v203 : Index := Scalar.indexCast v202
  let c0_82 : Index := 0#32
  ![v203.toNat, 0]
def k0_off3 (k0_t1 : Fin k0_t1_loop.trips) : Fin 3 → Nat :=
  let c0_84 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v206 : Index := Scalar.indexCast v202
  let c0_85 : Index := 0#32
  ![0, v206.toNat, 0]
def k0_off4 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v220 : Index := Scalar.indexCast v202
  let c0_90 : Index := 0#32
  ![v220.toNat, 0]
def k0_off5 (k0_t1 : Fin k0_t1_loop.trips) : Fin 3 → Nat :=
  let c0_97 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v237 : Index := Scalar.indexCast v202
  let c128_98 : Index := 128#32
  ![0, v237.toNat, 128]
def k0_off6 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v251 : Index := Scalar.indexCast v202
  let c128_103 : Index := 128#32
  ![v251.toNat, 128]
def k0_off7 (k0_t1 : Fin k0_t1_loop.trips) : Fin 3 → Nat :=
  let c0_110 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v268 : Index := Scalar.indexCast v202
  let c256 : Index := 256#32
  ![0, v268.toNat, 256]
def k0_off8 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v282 : Index := Scalar.indexCast v202
  let c256_115 : Index := 256#32
  ![v282.toNat, 256]
def k0_off9 (k0_t1 : Fin k0_t1_loop.trips) : Fin 3 → Nat :=
  let c0_122 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v299 : Index := Scalar.indexCast v202
  let c384 : Index := 384#32
  ![0, v299.toNat, 384]
def k0_off10 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v313 : Index := Scalar.indexCast v202
  let c384_127 : Index := 384#32
  ![v313.toNat, 384]
def k0_off11 (k0_t1 : Fin k0_t1_loop.trips) : Fin 3 → Nat :=
  let c0_134 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v330 : Index := Scalar.indexCast v202
  let c512 : Index := 512#32
  ![0, v330.toNat, 512]
def k0_off12 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v344 : Index := Scalar.indexCast v202
  let c512_139 : Index := 512#32
  ![v344.toNat, 512]
def k0_off13 (k0_t1 : Fin k0_t1_loop.trips) : Fin 3 → Nat :=
  let c0_146 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v361 : Index := Scalar.indexCast v202
  let c640 : Index := 640#32
  ![0, v361.toNat, 640]
def k0_off14 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v375 : Index := Scalar.indexCast v202
  let c640_151 : Index := 640#32
  ![v375.toNat, 640]
def k0_off15 (k0_t1 : Fin k0_t1_loop.trips) : Fin 3 → Nat :=
  let c0_158 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v392 : Index := Scalar.indexCast v202
  let c768 : Index := 768#32
  ![0, v392.toNat, 768]
def k0_off16 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v406 : Index := Scalar.indexCast v202
  let c768_163 : Index := 768#32
  ![v406.toNat, 768]
def k0_off17 (k0_t1 : Fin k0_t1_loop.trips) : Fin 3 → Nat :=
  let c0_170 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v423 : Index := Scalar.indexCast v202
  let c896 : Index := 896#32
  ![0, v423.toNat, 896]
def k0_off18 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v437 : Index := Scalar.indexCast v202
  let c896_175 : Index := 896#32
  ![v437.toNat, 896]
def k0_off19 (k0_t1 : Fin k0_t1_loop.trips) : Fin 3 → Nat :=
  let c0_182 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v454 : Index := Scalar.indexCast v202
  let c1024 : Index := 1024#32
  ![0, v454.toNat, 1024]
def k0_off20 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v468 : Index := Scalar.indexCast v202
  let c1024_187 : Index := 1024#32
  ![v468.toNat, 1024]
def k0_off21 (k0_t1 : Fin k0_t1_loop.trips) : Fin 3 → Nat :=
  let c0_194 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v485 : Index := Scalar.indexCast v202
  let c1152 : Index := 1152#32
  ![0, v485.toNat, 1152]
def k0_off22 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v499 : Index := Scalar.indexCast v202
  let c1152_199 : Index := 1152#32
  ![v499.toNat, 1152]
def k0_off23 (k0_t1 : Fin k0_t1_loop.trips) : Fin 3 → Nat :=
  let c0_206 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v516 : Index := Scalar.indexCast v202
  let c1280 : Index := 1280#32
  ![0, v516.toNat, 1280]
def k0_off24 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v530 : Index := Scalar.indexCast v202
  let c1280_211 : Index := 1280#32
  ![v530.toNat, 1280]
def k0_off25 (k0_t1 : Fin k0_t1_loop.trips) : Fin 3 → Nat :=
  let c0_218 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v547 : Index := Scalar.indexCast v202
  let c1408 : Index := 1408#32
  ![0, v547.toNat, 1408]
def k0_off26 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v561 : Index := Scalar.indexCast v202
  let c1408_223 : Index := 1408#32
  ![v561.toNat, 1408]
def k0_off27 (k0_t1 : Fin k0_t1_loop.trips) : Fin 3 → Nat :=
  let c0_230 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v578 : Index := Scalar.indexCast v202
  let c1536 : Index := 1536#32
  ![0, v578.toNat, 1536]
def k0_off28 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v592 : Index := Scalar.indexCast v202
  let c1536_235 : Index := 1536#32
  ![v592.toNat, 1536]
def k0_off29 (k0_t1 : Fin k0_t1_loop.trips) : Fin 3 → Nat :=
  let c0_242 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v609 : Index := Scalar.indexCast v202
  let c1664 : Index := 1664#32
  ![0, v609.toNat, 1664]
def k0_off30 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v623 : Index := Scalar.indexCast v202
  let c1664_247 : Index := 1664#32
  ![v623.toNat, 1664]
def k0_off31 (k0_t1 : Fin k0_t1_loop.trips) : Fin 3 → Nat :=
  let c0_254 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v640 : Index := Scalar.indexCast v202
  let c1792 : Index := 1792#32
  ![0, v640.toNat, 1792]
def k0_off32 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v654 : Index := Scalar.indexCast v202
  let c1792_259 : Index := 1792#32
  ![v654.toNat, 1792]
def k0_off33 (k0_t1 : Fin k0_t1_loop.trips) : Fin 3 → Nat :=
  let c0_266 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v671 : Index := Scalar.indexCast v202
  let c1920 : Index := 1920#32
  ![0, v671.toNat, 1920]
def k0_off34 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v685 : Index := Scalar.indexCast v202
  let c1920_271 : Index := 1920#32
  ![v685.toNat, 1920]
def k0_off35 (k0_t1 : Fin k0_t1_loop.trips) : Fin 3 → Nat :=
  let c0_278 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v702 : Index := Scalar.indexCast v202
  let c2048 : Index := 2048#32
  ![0, v702.toNat, 2048]
def k0_off36 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v716 : Index := Scalar.indexCast v202
  let c2048_283 : Index := 2048#32
  ![v716.toNat, 2048]
def k0_off37 (k0_t1 : Fin k0_t1_loop.trips) : Fin 3 → Nat :=
  let c0_290 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v733 : Index := Scalar.indexCast v202
  let c2176 : Index := 2176#32
  ![0, v733.toNat, 2176]
def k0_off38 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v747 : Index := Scalar.indexCast v202
  let c2176_295 : Index := 2176#32
  ![v747.toNat, 2176]
def k0_off39 (k0_t1 : Fin k0_t1_loop.trips) : Fin 3 → Nat :=
  let c0_302 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v764 : Index := Scalar.indexCast v202
  let c2304 : Index := 2304#32
  ![0, v764.toNat, 2304]
def k0_off40 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v778 : Index := Scalar.indexCast v202
  let c2304_307 : Index := 2304#32
  ![v778.toNat, 2304]
def k0_off41 (k0_t1 : Fin k0_t1_loop.trips) : Fin 3 → Nat :=
  let c0_314 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v795 : Index := Scalar.indexCast v202
  let c2432 : Index := 2432#32
  ![0, v795.toNat, 2432]
def k0_off42 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v809 : Index := Scalar.indexCast v202
  let c2432_319 : Index := 2432#32
  ![v809.toNat, 2432]
def k0_off43 (k0_t1 : Fin k0_t1_loop.trips) : Fin 3 → Nat :=
  let c0_326 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v826 : Index := Scalar.indexCast v202
  let c2560 : Index := 2560#32
  ![0, v826.toNat, 2560]
def k0_off44 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v840 : Index := Scalar.indexCast v202
  let c2560_331 : Index := 2560#32
  ![v840.toNat, 2560]
def k0_off45 (k0_t1 : Fin k0_t1_loop.trips) : Fin 3 → Nat :=
  let c0_338 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v857 : Index := Scalar.indexCast v202
  let c2688 : Index := 2688#32
  ![0, v857.toNat, 2688]
def k0_off46 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v871 : Index := Scalar.indexCast v202
  let c2688_343 : Index := 2688#32
  ![v871.toNat, 2688]
def k0_off47 (k0_t1 : Fin k0_t1_loop.trips) : Fin 3 → Nat :=
  let c0_350 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v888 : Index := Scalar.indexCast v202
  let c2816 : Index := 2816#32
  ![0, v888.toNat, 2816]
def k0_off48 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v902 : Index := Scalar.indexCast v202
  let c2816_355 : Index := 2816#32
  ![v902.toNat, 2816]
def k0_off49 (k0_t1 : Fin k0_t1_loop.trips) : Fin 3 → Nat :=
  let c0_362 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v919 : Index := Scalar.indexCast v202
  let c2944 : Index := 2944#32
  ![0, v919.toNat, 2944]
def k0_off50 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v933 : Index := Scalar.indexCast v202
  let c2944_367 : Index := 2944#32
  ![v933.toNat, 2944]
def k0_off51 (k0_t1 : Fin k0_t1_loop.trips) : Fin 3 → Nat :=
  let c0_374 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v950 : Index := Scalar.indexCast v202
  let c3072 : Index := 3072#32
  ![0, v950.toNat, 3072]
def k0_off52 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v964 : Index := Scalar.indexCast v202
  let c3072_379 : Index := 3072#32
  ![v964.toNat, 3072]
def k0_off53 (k0_t1 : Fin k0_t1_loop.trips) : Fin 3 → Nat :=
  let c0_386 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v981 : Index := Scalar.indexCast v202
  let c3200 : Index := 3200#32
  ![0, v981.toNat, 3200]
def k0_off54 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v995 : Index := Scalar.indexCast v202
  let c3200_391 : Index := 3200#32
  ![v995.toNat, 3200]
def k0_off55 (k0_t1 : Fin k0_t1_loop.trips) : Fin 3 → Nat :=
  let c0_398 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1012 : Index := Scalar.indexCast v202
  let c3328 : Index := 3328#32
  ![0, v1012.toNat, 3328]
def k0_off56 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1026 : Index := Scalar.indexCast v202
  let c3328_403 : Index := 3328#32
  ![v1026.toNat, 3328]
def k0_off57 (k0_t1 : Fin k0_t1_loop.trips) : Fin 3 → Nat :=
  let c0_410 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1043 : Index := Scalar.indexCast v202
  let c3456 : Index := 3456#32
  ![0, v1043.toNat, 3456]
def k0_off58 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1057 : Index := Scalar.indexCast v202
  let c3456_415 : Index := 3456#32
  ![v1057.toNat, 3456]
def k0_off59 (k0_t1 : Fin k0_t1_loop.trips) : Fin 3 → Nat :=
  let c0_422 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1074 : Index := Scalar.indexCast v202
  let c3584 : Index := 3584#32
  ![0, v1074.toNat, 3584]
def k0_off60 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1088 : Index := Scalar.indexCast v202
  let c3584_427 : Index := 3584#32
  ![v1088.toNat, 3584]
def k0_off61 (k0_t1 : Fin k0_t1_loop.trips) : Fin 3 → Nat :=
  let c0_434 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1105 : Index := Scalar.indexCast v202
  let c3712 : Index := 3712#32
  ![0, v1105.toNat, 3712]
def k0_off62 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1119 : Index := Scalar.indexCast v202
  let c3712_439 : Index := 3712#32
  ![v1119.toNat, 3712]
def k0_off63 (k0_t1 : Fin k0_t1_loop.trips) : Fin 3 → Nat :=
  let c0_446 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1136 : Index := Scalar.indexCast v202
  let c3840 : Index := 3840#32
  ![0, v1136.toNat, 3840]
def k0_off64 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1150 : Index := Scalar.indexCast v202
  let c3840_451 : Index := 3840#32
  ![v1150.toNat, 3840]
def k0_off65 (k0_t1 : Fin k0_t1_loop.trips) : Fin 3 → Nat :=
  let c0_458 : Index := 0#32
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1167 : Index := Scalar.indexCast v202
  let c3968 : Index := 3968#32
  ![0, v1167.toNat, 3968]
def k0_off66 (k0_t1 : Fin k0_t1_loop.trips) : Fin 2 → Nat :=
  let c0_i32_15 : BitVec 32 := 0#32
  let c1_i32_17 : BitVec 32 := 1#32
  let arg14 : BitVec 32 := Scf.iv c0_i32_15 c1_i32_17 k0_t1
  let c32_i32_81 : BitVec 32 := 32#32
  let v201 : BitVec 32 := Scalar.muli arg14 c32_i32_81
  let v202 : BitVec 32 := v201
  let v1181 : Index := Scalar.indexCast v202
  let c3968_463 : Index := 3968#32
  ![v1181.toNat, 3968]
@[reducible] def k0_t2_loop : Scf.Loop 32 :=
  let c0_i32_25 : BitVec 32 := 0#32
  let c8_i32_26 : BitVec 32 := 8#32
  let v62 : BitVec 32 := Scalar.addi c0_i32_25 c8_i32_26
  let c1_i32_27 : BitVec 32 := 1#32
  ⟨c0_i32_25, v62, c1_i32_27⟩
def k0_mult4 (k0_t2 : Fin k0_t2_loop.trips) : BitVec 32 :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  v201
def k0_off67 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v203 : Index := Scalar.indexCast v202
  let c0_82 : Index := 0#32
  ![v203.toNat, 0]
def k0_off68 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v206 : Index := Scalar.indexCast v202
  let c0_84 : Index := 0#32
  ![v206.toNat, 0]
def k0_off69 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v218 : Index := Scalar.indexCast v202
  let c128_87 : Index := 128#32
  ![v218.toNat, 128]
def k0_off70 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v230 : Index := Scalar.indexCast v202
  let c256 : Index := 256#32
  ![v230.toNat, 256]
def k0_off71 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v242 : Index := Scalar.indexCast v202
  let c384 : Index := 384#32
  ![v242.toNat, 384]
def k0_off72 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v254 : Index := Scalar.indexCast v202
  let c512 : Index := 512#32
  ![v254.toNat, 512]
def k0_off73 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v266 : Index := Scalar.indexCast v202
  let c640 : Index := 640#32
  ![v266.toNat, 640]
def k0_off74 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v278 : Index := Scalar.indexCast v202
  let c768 : Index := 768#32
  ![v278.toNat, 768]
def k0_off75 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v290 : Index := Scalar.indexCast v202
  let c896 : Index := 896#32
  ![v290.toNat, 896]
def k0_off76 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v302 : Index := Scalar.indexCast v202
  let c1024 : Index := 1024#32
  ![v302.toNat, 1024]
def k0_off77 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v314 : Index := Scalar.indexCast v202
  let c1152 : Index := 1152#32
  ![v314.toNat, 1152]
def k0_off78 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v326 : Index := Scalar.indexCast v202
  let c1280 : Index := 1280#32
  ![v326.toNat, 1280]
def k0_off79 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v338 : Index := Scalar.indexCast v202
  let c1408 : Index := 1408#32
  ![v338.toNat, 1408]
def k0_off80 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v350 : Index := Scalar.indexCast v202
  let c1536 : Index := 1536#32
  ![v350.toNat, 1536]
def k0_off81 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v362 : Index := Scalar.indexCast v202
  let c1664 : Index := 1664#32
  ![v362.toNat, 1664]
def k0_off82 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v374 : Index := Scalar.indexCast v202
  let c1792 : Index := 1792#32
  ![v374.toNat, 1792]
def k0_off83 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v386 : Index := Scalar.indexCast v202
  let c1920 : Index := 1920#32
  ![v386.toNat, 1920]
def k0_off84 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v398 : Index := Scalar.indexCast v202
  let c2048 : Index := 2048#32
  ![v398.toNat, 2048]
def k0_off85 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v410 : Index := Scalar.indexCast v202
  let c2176 : Index := 2176#32
  ![v410.toNat, 2176]
def k0_off86 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v422 : Index := Scalar.indexCast v202
  let c2304 : Index := 2304#32
  ![v422.toNat, 2304]
def k0_off87 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v434 : Index := Scalar.indexCast v202
  let c2432 : Index := 2432#32
  ![v434.toNat, 2432]
def k0_off88 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v446 : Index := Scalar.indexCast v202
  let c2560 : Index := 2560#32
  ![v446.toNat, 2560]
def k0_off89 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v458 : Index := Scalar.indexCast v202
  let c2688 : Index := 2688#32
  ![v458.toNat, 2688]
def k0_off90 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v470 : Index := Scalar.indexCast v202
  let c2816 : Index := 2816#32
  ![v470.toNat, 2816]
def k0_off91 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v482 : Index := Scalar.indexCast v202
  let c2944 : Index := 2944#32
  ![v482.toNat, 2944]
def k0_off92 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v494 : Index := Scalar.indexCast v202
  let c3072 : Index := 3072#32
  ![v494.toNat, 3072]
def k0_off93 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v506 : Index := Scalar.indexCast v202
  let c3200 : Index := 3200#32
  ![v506.toNat, 3200]
def k0_off94 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v518 : Index := Scalar.indexCast v202
  let c3328 : Index := 3328#32
  ![v518.toNat, 3328]
def k0_off95 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v530 : Index := Scalar.indexCast v202
  let c3456 : Index := 3456#32
  ![v530.toNat, 3456]
def k0_off96 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v542 : Index := Scalar.indexCast v202
  let c3584 : Index := 3584#32
  ![v542.toNat, 3584]
def k0_off97 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v554 : Index := Scalar.indexCast v202
  let c3712 : Index := 3712#32
  ![v554.toNat, 3712]
def k0_off98 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v566 : Index := Scalar.indexCast v202
  let c3840 : Index := 3840#32
  ![v566.toNat, 3840]
def k0_off99 (k0_t2 : Fin k0_t2_loop.trips) : Fin 2 → Nat :=
  let c0_i32_25 : BitVec 32 := 0#32
  let c1_i32_27 : BitVec 32 := 1#32
  let arg14 : BitVec 32 := Scf.iv c0_i32_25 c1_i32_27 k0_t2
  let c32_i32_81 : BitVec 32 := 32#32
  let v201 : BitVec 32 := Scalar.muli arg14 c32_i32_81
  let v202 : BitVec 32 := v201
  let v578 : Index := Scalar.indexCast v202
  let c3968 : Index := 3968#32
  ![v578.toNat, 3968]
@[reducible] def k0_t3_loop : Scf.Loop 32 :=
  let c0_i32_76 : BitVec 32 := 0#32
  let c8_i32_77 : BitVec 32 := 8#32
  let v198 : BitVec 32 := Scalar.addi c0_i32_76 c8_i32_77
  let c1_i32_78 : BitVec 32 := 1#32
  ⟨c0_i32_76, v198, c1_i32_78⟩
def k0_mult5 (k0_t3 : Fin k0_t3_loop.trips) : BitVec 32 :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  v201
def k0_off100 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v203 : Index := Scalar.indexCast v202
  let c0_82 : Index := 0#32
  ![v203.toNat, 0]
def k0_off101 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v205 : Index := Scalar.indexCast v202
  let c0_83 : Index := 0#32
  ![v205.toNat, 0]
def k0_off102 (k0_t3 : Fin k0_t3_loop.trips) : Fin 3 → Nat :=
  let c0_86 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v213 : Index := Scalar.indexCast v202
  let c0_87 : Index := 0#32
  ![0, v213.toNat, 0]
def k0_off103 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v217 : Index := Scalar.indexCast v202
  let c128_88 : Index := 128#32
  ![v217.toNat, 128]
def k0_off104 (k0_t3 : Fin k0_t3_loop.trips) : Fin 3 → Nat :=
  let c0_91 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v225 : Index := Scalar.indexCast v202
  let c128_92 : Index := 128#32
  ![0, v225.toNat, 128]
def k0_off105 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v229 : Index := Scalar.indexCast v202
  let c256 : Index := 256#32
  ![v229.toNat, 256]
def k0_off106 (k0_t3 : Fin k0_t3_loop.trips) : Fin 3 → Nat :=
  let c0_95 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v237 : Index := Scalar.indexCast v202
  let c256_96 : Index := 256#32
  ![0, v237.toNat, 256]
def k0_off107 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v241 : Index := Scalar.indexCast v202
  let c384 : Index := 384#32
  ![v241.toNat, 384]
def k0_off108 (k0_t3 : Fin k0_t3_loop.trips) : Fin 3 → Nat :=
  let c0_99 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v249 : Index := Scalar.indexCast v202
  let c384_100 : Index := 384#32
  ![0, v249.toNat, 384]
def k0_off109 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v253 : Index := Scalar.indexCast v202
  let c512 : Index := 512#32
  ![v253.toNat, 512]
def k0_off110 (k0_t3 : Fin k0_t3_loop.trips) : Fin 3 → Nat :=
  let c0_103 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v261 : Index := Scalar.indexCast v202
  let c512_104 : Index := 512#32
  ![0, v261.toNat, 512]
def k0_off111 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v265 : Index := Scalar.indexCast v202
  let c640 : Index := 640#32
  ![v265.toNat, 640]
def k0_off112 (k0_t3 : Fin k0_t3_loop.trips) : Fin 3 → Nat :=
  let c0_107 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v273 : Index := Scalar.indexCast v202
  let c640_108 : Index := 640#32
  ![0, v273.toNat, 640]
def k0_off113 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v277 : Index := Scalar.indexCast v202
  let c768 : Index := 768#32
  ![v277.toNat, 768]
def k0_off114 (k0_t3 : Fin k0_t3_loop.trips) : Fin 3 → Nat :=
  let c0_111 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v285 : Index := Scalar.indexCast v202
  let c768_112 : Index := 768#32
  ![0, v285.toNat, 768]
def k0_off115 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v289 : Index := Scalar.indexCast v202
  let c896 : Index := 896#32
  ![v289.toNat, 896]
def k0_off116 (k0_t3 : Fin k0_t3_loop.trips) : Fin 3 → Nat :=
  let c0_115 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v297 : Index := Scalar.indexCast v202
  let c896_116 : Index := 896#32
  ![0, v297.toNat, 896]
def k0_off117 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v301 : Index := Scalar.indexCast v202
  let c1024 : Index := 1024#32
  ![v301.toNat, 1024]
def k0_off118 (k0_t3 : Fin k0_t3_loop.trips) : Fin 3 → Nat :=
  let c0_119 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v309 : Index := Scalar.indexCast v202
  let c1024_120 : Index := 1024#32
  ![0, v309.toNat, 1024]
def k0_off119 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v313 : Index := Scalar.indexCast v202
  let c1152 : Index := 1152#32
  ![v313.toNat, 1152]
def k0_off120 (k0_t3 : Fin k0_t3_loop.trips) : Fin 3 → Nat :=
  let c0_123 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v321 : Index := Scalar.indexCast v202
  let c1152_124 : Index := 1152#32
  ![0, v321.toNat, 1152]
def k0_off121 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v325 : Index := Scalar.indexCast v202
  let c1280 : Index := 1280#32
  ![v325.toNat, 1280]
def k0_off122 (k0_t3 : Fin k0_t3_loop.trips) : Fin 3 → Nat :=
  let c0_127 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v333 : Index := Scalar.indexCast v202
  let c1280_128 : Index := 1280#32
  ![0, v333.toNat, 1280]
def k0_off123 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v337 : Index := Scalar.indexCast v202
  let c1408 : Index := 1408#32
  ![v337.toNat, 1408]
def k0_off124 (k0_t3 : Fin k0_t3_loop.trips) : Fin 3 → Nat :=
  let c0_131 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v345 : Index := Scalar.indexCast v202
  let c1408_132 : Index := 1408#32
  ![0, v345.toNat, 1408]
def k0_off125 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v349 : Index := Scalar.indexCast v202
  let c1536 : Index := 1536#32
  ![v349.toNat, 1536]
def k0_off126 (k0_t3 : Fin k0_t3_loop.trips) : Fin 3 → Nat :=
  let c0_135 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v357 : Index := Scalar.indexCast v202
  let c1536_136 : Index := 1536#32
  ![0, v357.toNat, 1536]
def k0_off127 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v361 : Index := Scalar.indexCast v202
  let c1664 : Index := 1664#32
  ![v361.toNat, 1664]
def k0_off128 (k0_t3 : Fin k0_t3_loop.trips) : Fin 3 → Nat :=
  let c0_139 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v369 : Index := Scalar.indexCast v202
  let c1664_140 : Index := 1664#32
  ![0, v369.toNat, 1664]
def k0_off129 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v373 : Index := Scalar.indexCast v202
  let c1792 : Index := 1792#32
  ![v373.toNat, 1792]
def k0_off130 (k0_t3 : Fin k0_t3_loop.trips) : Fin 3 → Nat :=
  let c0_143 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v381 : Index := Scalar.indexCast v202
  let c1792_144 : Index := 1792#32
  ![0, v381.toNat, 1792]
def k0_off131 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v385 : Index := Scalar.indexCast v202
  let c1920 : Index := 1920#32
  ![v385.toNat, 1920]
def k0_off132 (k0_t3 : Fin k0_t3_loop.trips) : Fin 3 → Nat :=
  let c0_147 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v393 : Index := Scalar.indexCast v202
  let c1920_148 : Index := 1920#32
  ![0, v393.toNat, 1920]
def k0_off133 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v397 : Index := Scalar.indexCast v202
  let c2048 : Index := 2048#32
  ![v397.toNat, 2048]
def k0_off134 (k0_t3 : Fin k0_t3_loop.trips) : Fin 3 → Nat :=
  let c0_151 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v405 : Index := Scalar.indexCast v202
  let c2048_152 : Index := 2048#32
  ![0, v405.toNat, 2048]
def k0_off135 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v409 : Index := Scalar.indexCast v202
  let c2176 : Index := 2176#32
  ![v409.toNat, 2176]
def k0_off136 (k0_t3 : Fin k0_t3_loop.trips) : Fin 3 → Nat :=
  let c0_155 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v417 : Index := Scalar.indexCast v202
  let c2176_156 : Index := 2176#32
  ![0, v417.toNat, 2176]
def k0_off137 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v421 : Index := Scalar.indexCast v202
  let c2304 : Index := 2304#32
  ![v421.toNat, 2304]
def k0_off138 (k0_t3 : Fin k0_t3_loop.trips) : Fin 3 → Nat :=
  let c0_159 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v429 : Index := Scalar.indexCast v202
  let c2304_160 : Index := 2304#32
  ![0, v429.toNat, 2304]
def k0_off139 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v433 : Index := Scalar.indexCast v202
  let c2432 : Index := 2432#32
  ![v433.toNat, 2432]
def k0_off140 (k0_t3 : Fin k0_t3_loop.trips) : Fin 3 → Nat :=
  let c0_163 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v441 : Index := Scalar.indexCast v202
  let c2432_164 : Index := 2432#32
  ![0, v441.toNat, 2432]
def k0_off141 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v445 : Index := Scalar.indexCast v202
  let c2560 : Index := 2560#32
  ![v445.toNat, 2560]
def k0_off142 (k0_t3 : Fin k0_t3_loop.trips) : Fin 3 → Nat :=
  let c0_167 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v453 : Index := Scalar.indexCast v202
  let c2560_168 : Index := 2560#32
  ![0, v453.toNat, 2560]
def k0_off143 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v457 : Index := Scalar.indexCast v202
  let c2688 : Index := 2688#32
  ![v457.toNat, 2688]
def k0_off144 (k0_t3 : Fin k0_t3_loop.trips) : Fin 3 → Nat :=
  let c0_171 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v465 : Index := Scalar.indexCast v202
  let c2688_172 : Index := 2688#32
  ![0, v465.toNat, 2688]
def k0_off145 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v469 : Index := Scalar.indexCast v202
  let c2816 : Index := 2816#32
  ![v469.toNat, 2816]
def k0_off146 (k0_t3 : Fin k0_t3_loop.trips) : Fin 3 → Nat :=
  let c0_175 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v477 : Index := Scalar.indexCast v202
  let c2816_176 : Index := 2816#32
  ![0, v477.toNat, 2816]
def k0_off147 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v481 : Index := Scalar.indexCast v202
  let c2944 : Index := 2944#32
  ![v481.toNat, 2944]
def k0_off148 (k0_t3 : Fin k0_t3_loop.trips) : Fin 3 → Nat :=
  let c0_179 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v489 : Index := Scalar.indexCast v202
  let c2944_180 : Index := 2944#32
  ![0, v489.toNat, 2944]
def k0_off149 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v493 : Index := Scalar.indexCast v202
  let c3072 : Index := 3072#32
  ![v493.toNat, 3072]
def k0_off150 (k0_t3 : Fin k0_t3_loop.trips) : Fin 3 → Nat :=
  let c0_183 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v501 : Index := Scalar.indexCast v202
  let c3072_184 : Index := 3072#32
  ![0, v501.toNat, 3072]
def k0_off151 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v505 : Index := Scalar.indexCast v202
  let c3200 : Index := 3200#32
  ![v505.toNat, 3200]
def k0_off152 (k0_t3 : Fin k0_t3_loop.trips) : Fin 3 → Nat :=
  let c0_187 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v513 : Index := Scalar.indexCast v202
  let c3200_188 : Index := 3200#32
  ![0, v513.toNat, 3200]
def k0_off153 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v517 : Index := Scalar.indexCast v202
  let c3328 : Index := 3328#32
  ![v517.toNat, 3328]
def k0_off154 (k0_t3 : Fin k0_t3_loop.trips) : Fin 3 → Nat :=
  let c0_191 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v525 : Index := Scalar.indexCast v202
  let c3328_192 : Index := 3328#32
  ![0, v525.toNat, 3328]
def k0_off155 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v529 : Index := Scalar.indexCast v202
  let c3456 : Index := 3456#32
  ![v529.toNat, 3456]
def k0_off156 (k0_t3 : Fin k0_t3_loop.trips) : Fin 3 → Nat :=
  let c0_195 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v537 : Index := Scalar.indexCast v202
  let c3456_196 : Index := 3456#32
  ![0, v537.toNat, 3456]
def k0_off157 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v541 : Index := Scalar.indexCast v202
  let c3584 : Index := 3584#32
  ![v541.toNat, 3584]
def k0_off158 (k0_t3 : Fin k0_t3_loop.trips) : Fin 3 → Nat :=
  let c0_199 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v549 : Index := Scalar.indexCast v202
  let c3584_200 : Index := 3584#32
  ![0, v549.toNat, 3584]
def k0_off159 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v553 : Index := Scalar.indexCast v202
  let c3712 : Index := 3712#32
  ![v553.toNat, 3712]
def k0_off160 (k0_t3 : Fin k0_t3_loop.trips) : Fin 3 → Nat :=
  let c0_203 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v561 : Index := Scalar.indexCast v202
  let c3712_204 : Index := 3712#32
  ![0, v561.toNat, 3712]
def k0_off161 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v565 : Index := Scalar.indexCast v202
  let c3840 : Index := 3840#32
  ![v565.toNat, 3840]
def k0_off162 (k0_t3 : Fin k0_t3_loop.trips) : Fin 3 → Nat :=
  let c0_207 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v573 : Index := Scalar.indexCast v202
  let c3840_208 : Index := 3840#32
  ![0, v573.toNat, 3840]
def k0_off163 (k0_t3 : Fin k0_t3_loop.trips) : Fin 2 → Nat :=
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v577 : Index := Scalar.indexCast v202
  let c3968 : Index := 3968#32
  ![v577.toNat, 3968]
def k0_off164 (k0_t3 : Fin k0_t3_loop.trips) : Fin 3 → Nat :=
  let c0_211 : Index := 0#32
  let c0_i32_76 : BitVec 32 := 0#32
  let c1_i32_78 : BitVec 32 := 1#32
  let arg14 : BitVec 32 := Scf.iv c0_i32_76 c1_i32_78 k0_t3
  let c32_i32_81 : BitVec 32 := 32#32
  let v201 : BitVec 32 := Scalar.muli arg14 c32_i32_81
  let v202 : BitVec 32 := v201
  let v585 : Index := Scalar.indexCast v202
  let c3968_212 : Index := 3968#32
  ![0, v585.toNat, 3968]
def k0_cond2 (i : grid0.Coords) : BitVec 1 :=
  let arg0 : BitVec 32 := BitVec.ofNat 32 (i 0).val
  let c56_i32 : BitVec 32 := 56#32
  let v3 : BitVec 1 := Scalar.cmpi .eq arg0 c56_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v199 : BitVec 32 := Scalar.extui v5
  let c0_i32_80 : BitVec 32 := 0#32
  let v200 : BitVec 1 := Scalar.cmpi .ne v199 c0_i32_80
  v200

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S57x1024x4096 : Shape := ⟨3, ![57, 1024, 4096]⟩
abbrev S4096 : Shape := ⟨1, ![4096]⟩
abbrev S57x1024 : Shape := ⟨2, ![57, 1024]⟩
abbrev S57x1024x1 : Shape := ⟨3, ![57, 1024, 1]⟩
abbrev S1x1x4096 : Shape := ⟨3, ![1, 1, 4096]⟩
abbrev S_ : Shape := ⟨0, ![]⟩
abbrev S1x4096 : Shape := ⟨2, ![1, 4096]⟩
abbrev S57x1x1024 : Shape := ⟨3, ![57, 1, 1024]⟩

abbrev nBuf : Space → Nat
  | .hbm => 112
  | .vmem => 2
  | .smem => 0
  | _ => 0

abbrev bufTy : (tb : Table) → Fin (tcTables nBuf tb) → BufTy
  | .hbm, ⟨0, _⟩ => ⟨S57x1024x4096, .bf16⟩
  | .hbm, ⟨1, _⟩ => ⟨S57x1024x4096, .bf16⟩
  | .hbm, ⟨2, _⟩ => ⟨S4096, .f32⟩
  | .hbm, ⟨3, _⟩ => ⟨S57x1024, .f32⟩
  | .hbm, ⟨4, _⟩ => ⟨S57x1024x1, .f32⟩
  | .hbm, ⟨5, _⟩ => ⟨S57x1024x4096, .f32⟩
  | .hbm, ⟨6, _⟩ => ⟨S57x1024x4096, .f32⟩
  | .hbm, ⟨7, _⟩ => ⟨S57x1024x4096, .f32⟩
  | .hbm, ⟨8, _⟩ => ⟨S57x1024x4096, .f32⟩
  | .hbm, ⟨9, _⟩ => ⟨S1x1x4096, .f32⟩
  | .hbm, ⟨10, _⟩ => ⟨S57x1024x4096, .f32⟩
  | .hbm, ⟨11, _⟩ => ⟨S57x1024x4096, .f32⟩
  | .hbm, ⟨12, _⟩ => ⟨S57x1024x4096, .f32⟩
  | .hbm, ⟨13, _⟩ => ⟨S_, .f32⟩
  | .hbm, ⟨14, _⟩ => ⟨S57x1024, .f32⟩
  | .hbm, ⟨15, _⟩ => ⟨S57x1024x1, .f32⟩
  | .hbm, ⟨16, _⟩ => ⟨S_, .f32⟩
  | .hbm, ⟨17, _⟩ => ⟨S57x1024x1, .f32⟩
  | .hbm, ⟨18, _⟩ => ⟨S57x1024x1, .f32⟩
  | .hbm, ⟨19, _⟩ => ⟨S57x1024x4096, .f32⟩
  | .hbm, ⟨20, _⟩ => ⟨S57x1024x4096, .f32⟩
  | .hbm, ⟨21, _⟩ => ⟨S57x1024x4096, .f32⟩
  | .hbm, ⟨22, _⟩ => ⟨S57x1024x4096, .f32⟩
  | .hbm, ⟨23, _⟩ => ⟨S57x1024x4096, .f32⟩
  | .hbm, ⟨24, _⟩ => ⟨S57x1024x4096, .f32⟩
  | .hbm, ⟨25, _⟩ => ⟨S_, .f32⟩
  | .hbm, ⟨26, _⟩ => ⟨S4096, .f32⟩
  | .hbm, ⟨27, _⟩ => ⟨S57x1024x4096, .f32⟩
  | .hbm, ⟨28, _⟩ => ⟨S_, .f32⟩
  | .hbm, ⟨29, _⟩ => ⟨S57x1024, .f32⟩
  | .hbm, ⟨30, _⟩ => ⟨S57x1024x1, .f32⟩
  | .hbm, ⟨31, _⟩ => ⟨S_, .f32⟩
  | .hbm, ⟨32, _⟩ => ⟨S57x1024x1, .f32⟩
  | .hbm, ⟨33, _⟩ => ⟨S57x1024x1, .f32⟩
  | .hbm, ⟨34, _⟩ => ⟨S57x1024x1, .f32⟩
  | .hbm, ⟨35, _⟩ => ⟨S_, .f32⟩
  | .hbm, ⟨36, _⟩ => ⟨S_, .f32⟩
  | .hbm, ⟨37, _⟩ => ⟨S57x1024x1, .f32⟩
  | .hbm, ⟨38, _⟩ => ⟨S57x1024x1, .f32⟩
  | .hbm, ⟨39, _⟩ => ⟨S57x1024x1, .f32⟩
  | .hbm, ⟨40, _⟩ => ⟨S_, .f32⟩
  | .hbm, ⟨41, _⟩ => ⟨S57x1024x1, .f32⟩
  | .hbm, ⟨42, _⟩ => ⟨S57x1024x1, .f32⟩
  | .hbm, ⟨43, _⟩ => ⟨S_, .f32⟩
  | .hbm, ⟨44, _⟩ => ⟨S57x1024x1, .f32⟩
  | .hbm, ⟨45, _⟩ => ⟨S57x1024x1, .i1⟩
  | .hbm, ⟨46, _⟩ => ⟨S_, .f32⟩
  | .hbm, ⟨47, _⟩ => ⟨S57x1024x1, .f32⟩
  | .hbm, ⟨48, _⟩ => ⟨S57x1024x1, .i1⟩
  | .hbm, ⟨49, _⟩ => ⟨S57x1024x1, .i1⟩
  | .hbm, ⟨50, _⟩ => ⟨S_, .f32⟩
  | .hbm, ⟨51, _⟩ => ⟨S57x1024x1, .f32⟩
  | .hbm, ⟨52, _⟩ => ⟨S57x1024x1, .f32⟩
  | .hbm, ⟨53, _⟩ => ⟨S_, .f32⟩
  | .hbm, ⟨54, _⟩ => ⟨S_, .f32⟩
  | .hbm, ⟨55, _⟩ => ⟨S57x1024x1, .f32⟩
  | .hbm, ⟨56, _⟩ => ⟨S57x1024x1, .f32⟩
  | .hbm, ⟨57, _⟩ => ⟨S_, .f32⟩
  | .hbm, ⟨58, _⟩ => ⟨S57x1024x1, .f32⟩
  | .hbm, ⟨59, _⟩ => ⟨S57x1024x1, .i1⟩
  | .hbm, ⟨60, _⟩ => ⟨S_, .f32⟩
  | .hbm, ⟨61, _⟩ => ⟨S_, .f32⟩
  | .hbm, ⟨62, _⟩ => ⟨S57x1024x1, .f32⟩
  | .hbm, ⟨63, _⟩ => ⟨S57x1024x1, .f32⟩
  | .hbm, ⟨64, _⟩ => ⟨S_, .f32⟩
  | .hbm, ⟨65, _⟩ => ⟨S57x1024x1, .f32⟩
  | .hbm, ⟨66, _⟩ => ⟨S57x1024x1, .i1⟩
  | .hbm, ⟨67, _⟩ => ⟨S_, .f32⟩
  | .hbm, ⟨68, _⟩ => ⟨S57x1024x1, .f32⟩
  | .hbm, ⟨69, _⟩ => ⟨S57x1024x1, .i1⟩
  | .hbm, ⟨70, _⟩ => ⟨S_, .f32⟩
  | .hbm, ⟨71, _⟩ => ⟨S57x1024x1, .f32⟩
  | .hbm, ⟨72, _⟩ => ⟨S57x1024x1, .f32⟩
  | .hbm, ⟨73, _⟩ => ⟨S_, .f32⟩
  | .hbm, ⟨74, _⟩ => ⟨S_, .f32⟩
  | .hbm, ⟨75, _⟩ => ⟨S57x1024x1, .f32⟩
  | .hbm, ⟨76, _⟩ => ⟨S57x1024x1, .f32⟩
  | .hbm, ⟨77, _⟩ => ⟨S_, .f32⟩
  | .hbm, ⟨78, _⟩ => ⟨S_, .f32⟩
  | .hbm, ⟨79, _⟩ => ⟨S57x1024x1, .f32⟩
  | .hbm, ⟨80, _⟩ => ⟨S57x1024x1, .f32⟩
  | .hbm, ⟨81, _⟩ => ⟨S57x1024x1, .f32⟩
  | .hbm, ⟨82, _⟩ => ⟨S_, .f32⟩
  | .hbm, ⟨83, _⟩ => ⟨S57x1024x1, .f32⟩
  | .hbm, ⟨84, _⟩ => ⟨S57x1024x1, .i1⟩
  | .hbm, ⟨85, _⟩ => ⟨S_, .f32⟩
  | .hbm, ⟨86, _⟩ => ⟨S57x1024x1, .f32⟩
  | .hbm, ⟨87, _⟩ => ⟨S57x1024x1, .i1⟩
  | .hbm, ⟨88, _⟩ => ⟨S_, .f32⟩
  | .hbm, ⟨89, _⟩ => ⟨S57x1024x1, .f32⟩
  | .hbm, ⟨90, _⟩ => ⟨S57x1024x1, .f32⟩
  | .hbm, ⟨91, _⟩ => ⟨S_, .f32⟩
  | .hbm, ⟨92, _⟩ => ⟨S_, .f32⟩
  | .hbm, ⟨93, _⟩ => ⟨S57x1024x1, .f32⟩
  | .hbm, ⟨94, _⟩ => ⟨S57x1024x1, .f32⟩
  | .hbm, ⟨95, _⟩ => ⟨S_, .f32⟩
  | .hbm, ⟨96, _⟩ => ⟨S_, .f32⟩
  | .hbm, ⟨97, _⟩ => ⟨S57x1024x1, .f32⟩
  | .hbm, ⟨98, _⟩ => ⟨S57x1024x1, .f32⟩
  | .hbm, ⟨99, _⟩ => ⟨S57x1024x4096, .f32⟩
  | .hbm, ⟨100, _⟩ => ⟨S57x1024x4096, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S57x1024x4096, .f32⟩
  | .hbm, ⟨105, _⟩ => ⟨S57x1024x4096, .f32⟩
  | .hbm, ⟨106, _⟩ => ⟨S_, .f32⟩
  | .hbm, ⟨107, _⟩ => ⟨S57x1024x4096, .f32⟩
  | .hbm, ⟨108, _⟩ => ⟨S57x1024x4096, .f32⟩
  | .hbm, ⟨109, _⟩ => ⟨S1x4096, .f32⟩
  | .hbm, ⟨110, _⟩ => ⟨S57x1x1024, .f32⟩
  | .hbm, ⟨111, _⟩ => ⟨S57x1024x4096, .fp8e5m2⟩
  | .local _ .vmem, ⟨0, _⟩ => ⟨S57x1024x4096, .f32⟩
  | .local _ .vmem, ⟨1, _⟩ => ⟨S57x1024x4096, .fp8e5m2⟩
  | _, _ => ⟨S57x1024x4096, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_cst_15 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_cst_16 : Ref sig .tc := ⟨.hbm, 77, rfl⟩
abbrev main_call3_v0 : Ref sig .tc := ⟨.hbm, 78, rfl⟩
abbrev main_call3_v1 : Ref sig .tc := ⟨.hbm, 79, rfl⟩
abbrev main_v50 : Ref sig .tc := ⟨.hbm, 80, rfl⟩
abbrev main_v51 : Ref sig .tc := ⟨.hbm, 81, rfl⟩
abbrev main_cst_17 : Ref sig .tc := ⟨.hbm, 82, rfl⟩
abbrev main_v52 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_v55 : Ref sig .tc := ⟨.hbm, 87, rfl⟩
abbrev main_cst_19 : Ref sig .tc := ⟨.hbm, 88, rfl⟩
abbrev main_v56 : Ref sig .tc := ⟨.hbm, 89, rfl⟩
abbrev main_v57 : Ref sig .tc := ⟨.hbm, 90, rfl⟩
abbrev main_cst_20 : Ref sig .tc := ⟨.hbm, 91, rfl⟩
abbrev main_call4_v0 : Ref sig .tc := ⟨.hbm, 92, rfl⟩
abbrev main_call4_v1 : Ref sig .tc := ⟨.hbm, 93, rfl⟩
abbrev main_v58 : Ref sig .tc := ⟨.hbm, 94, rfl⟩
abbrev main_cst_21 : Ref sig .tc := ⟨.hbm, 95, rfl⟩
abbrev main_call5_v0 : Ref sig .tc := ⟨.hbm, 96, rfl⟩
abbrev main_call5_v1 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_22 : Ref sig .tc := ⟨.hbm, 101, rfl⟩
abbrev main_cst_23 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S57x1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S57x1024x4096 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel body on any whole staging and scratch buffers, at any grid point: it runs to its end, the four inputs'
    buffers end holding what they held, and each of the others ends holding something. Neither conditional of the body
    is decided here: the run is the same proof in each of their cases. -/
theorem body_runs (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
    (x0 : Vec F S1x256x4096 .bf16) (x1 : Vec F S1x256x4096 .bf16) (x2 : Vec F S1x4096 .f32) (x3 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_rmsnorm_bwd_e5m2 i arg2 harg2 arg3 harg3 arg4 harg4 arg5 harg5 arg6 harg6 arg7 harg7 arg8 harg8 arg9 harg9 arg10 harg10 arg11 harg11 arg12 harg12 arg13 harg13) K := by
  simp only [cc0_rmsnorm_bwd_e5m2_eq_skeleton]; unfold cc0_rmsnorm_bwd_e5m2_skel
  simp only [k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3
  by_cases hc0 : (Scalar.cmpi .ne (Scalar.extui (Scalar.andi (Scalar.cmpi .eq (BitVec.ofNat 32 (i 0).val) 0#32) (Scalar.cmpi .eq (BitVec.ofNat 32 (i 1).val) 0#32))) 0#32) = 1#1 <;>
  by_cases hc1 : k0_cond2 i = 1#1
  all_goals
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.lean ====
module

public import proofs.«01_k».proof.Proof.KernelRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

/-- Each window's current staging buffer at point `t`. -/
abbrev ms0_0 (t : Fin cfg0.N) : Memref sig .tc .vmem S1x256x4096 .bf16 := win0_0.stage (cfg0.slots t 0)
abbrev ms0_1 (t : Fin cfg0.N) : Memref sig .tc .vmem S1x256x4096 .bf16 := win0_1.stage (cfg0.slots t 1)
abbrev ms0_2 (t : Fin cfg0.N) : Memref sig .tc .vmem S1x4096 .f32 := win0_2.stage (cfg0.slots t 2)
abbrev ms0_3 (t : Fin cfg0.N) : Memref sig .tc .vmem S8x1024 .f32 := win0_3.stage (cfg0.slots t 3)
abbrev ms0_4 (t : Fin cfg0.N) : Memref sig .tc .vmem S1x4096 .f32 := win0_4.stage (cfg0.slots t 4)
abbrev ms0_5 (t : Fin cfg0.N) : Memref sig .tc .vmem S1x256x4096 .fp8e5m2 := win0_5.stage (cfg0.slots t 5)
abbrev ms0_6 (t : Fin cfg0.N) : Memref sig .tc .vmem S1x1x256 .f32 := win0_6.stage (cfg0.slots t 6)
/-- The scratch operands: whole buffers of the kernel's own. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S8x4096 .f32 := Memref.whole cc0_scratch4

/-- The invariant between points, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- The output windows of which nothing is said here. -/
def forgets0 : Fin 7 → Bool := fun w => w.val == 4 || w.val == 5 || w.val == 6

/-- The proof data: the arrays as the region finds them; after the body each input's buffer at its block — the `rstd`
    window's last block overhangs its array, and past the array's end any word will do —; the outputs unnamed; between
    points every scratch buffer at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .f32 0#32) (iblk m c 3 t)
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) :
    (fdats m 0 c).after 3 t = win0_3.fill (grid0.coords t) (fun _ => Scalar.ofBits .f32 0#32) (iblk m c 3 t) := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d

/-- The `rstd` window's buffer at any point holds its block on the rows inside the array and anything past them, for any
    proof data that leaves the block in place there. -/
theorem before0_3_of {c : Dev nD} (dat : Dat τ (Elt F) Unit ℕ (UR sig nD τ) ℕ cfg0 c) (hA : dat.A 3 = V m c (Pipeline.arrRef spec0 3))
    (hafter : ∀ t, dat.after 3 t = win0_3.fill (grid0.coords t) (fun _ => Scalar.ofBits .f32 0#32) (iblk m c 3 t)) (t : Fin cfg0.N) (d) :
    dat.before 3 t d = win0_3.fill (grid0.coords t) d (iblk m c 3 t) :=
  (dat.before_in_eq_fetched 3 rfl (fun _ => rfl) (fun t t' h => by
      exact funext fun a => congrArg (fun n => Pipeline.Clip.of n (S8x1024.size a) (S57x1024.size a)) (congrFun h a))
    (fun t => by
      rw [hafter]; unfold Dat.blockOf iblk; rw [hA]
      exact win0_3.cut_fill _ _ _) t d).trans
    (by unfold Dat.fetched Dat.blockOf iblk; rw [hA]; try rfl)
theorem fbefore_3 (c : Dev nD) (t : Fin cfg0.N) (d) :
    (fdats m 0 c).before 3 t d = win0_3.fill (grid0.coords t) d (iblk m c 3 t) :=
  before0_3_of m (fdats m 0 c) (fA_eq m c 3) (fafter_3 m c) t d

/-! ## The body obligation -/

theorem defs₀_row (t : Fin cfg0.N) :
    defs₀ (F := F) .tc cfg0.body (cfg0.bodyArgs t (cfg0.slots t)) = bodyAt0 t := by
  unfold defs₀; rw [Defs.onTc_tc]

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare ((fdats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns: the `rstd` buffer stated on the rows inside the array only. -/
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ owns (c : Thread nD τ) (ms0_1 t) fullShare ((fdats m 0 c).after 1 t)
    ∗ owns (c : Thread nD τ) (ms0_2 t) fullShare ((fdats m 0 c).after 2 t)
    ∗ (∃ d, owns (c : Thread nD τ) (ms0_3 t) fullShare (win0_3.fill (grid0.coords t) d (win0_3.cut (grid0.coords t) ((fdats m 0 c).after 3 t))))
    ∗ (∃ d, owns (c : Thread nD τ) (ms0_4 t) fullShare d)
    ∗ (∃ d, owns (c : Thread nD τ) (ms0_5 t) fullShare d)
    ∗ (∃ d, owns (c : Thread nD τ) (ms0_6 t) fullShare d))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [fafter_0, fafter_1, fafter_2, fafter_3, win0_3.cut_fill]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, H4, H5, H6⟩
  rw [fbefore_0 m c t d0, fbefore_1 m c t d1, fbefore_2 m c t d2, fbefore_3 m c t d3]
  iapply (body_runs c (grid0.coords t) _ _ _ _ _ _ _ _ _ _ _ _ _ _ _ _ _ _ _ _ _ _ _ _ (iblk m c 0 t) (iblk m c 1 t) (iblk m c 2 t)
    (win0_3.fill (grid0.coords t) d3 (iblk m c 3 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists d3; iexact H3
  isplitl [H4]; · iexact H4
  isplitl [H5]; · iexact H5
  iexact H6

theorem fbody_obligation (c : Dev nD) : BodyObligationLoose (fdats (F := F) m 0 c) (defs₀ (F := F)) Variants.none () Set.univ forgets0 := fun t => by
  rw [bigSep_W0, bigSep_W0, defs₀_row]
  exact triple_restated (fsound_body m c t) rfl .rfl fun _ => .rfl

/-! ## The run and the frame -/

set_option backward.isDefEq.respectTransparency.types false in
/-- Every fair execution ends, with every input array unchanged and every semaphore counter at zero. -/
theorem run_main_quiescent : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_track_forget (Q' := _) cfgs (fdats m) (0 : Fin 1) launch0 defs₀ Variants.none forgets0 m ρ main
    (hbody := fun c => fbody_obligation m c) (hshare := fun c => (fdats m 0 c).share_full fun _ => rfl)
    (howed := fun _ _ => rfl) (V := V m) (hmain := hmain m Variants.none) (hA := fA_eq m) (hin := fun _ => .rfl) (hout := fun _ => .rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h.1 c 0 rfl).trans ((fA_eq m c 0).trans (V_main_arg0 m c)),
      (Pipeline.RDat.FramePost.arr_in h.1 c 1 rfl).trans ((fA_eq m c 1).trans (V_main_arg1 m c)),
      ((h.1 c).2 main_arg2 (Pipeline.mem_restRefs_of main_arg2 (by decide) (by decide))).trans (V_main_arg2 m c),
      (Pipeline.RDat.FramePost.arr_in h.1 c 3 rfl).trans ((fA_eq m c 3).trans (V_main_arg3 m c))⟩) (run_main_quiescent m ρ)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KernelIdealRun.lean ====
module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel body on any whole staging and scratch buffers, at any grid point: it runs to its end, the four inputs'
    buffers end holding what they held, and each of the others ends holding something. Neither conditional of the body
    is decided here: the run is the same proof in each of their cases. -/
theorem body_runs (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
    (x0 : Vec F S1x256x4096 .bf16) (x1 : Vec F S1x256x4096 .bf16) (x2 : Vec F S1x4096 .f32) (x3 : Vec F S8x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_rmsnorm_bwd_e5m2 i arg2 harg2 arg3 harg3 arg4 harg4 arg5 harg5 arg6 harg6 arg7 harg7 arg8 harg8 arg9 harg9 arg10 harg10 arg11 harg11 arg12 harg12 arg13 harg13) K := by
  simp only [cc0_rmsnorm_bwd_e5m2_eq_skeleton]; unfold cc0_rmsnorm_bwd_e5m2_skel
  simp only [k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3
  by_cases hc0 : (Scalar.cmpi .ne (Scalar.extui (Scalar.andi (Scalar.cmpi .eq (BitVec.ofNat 32 (i 0).val) 0#32) (Scalar.cmpi .eq (BitVec.ofNat 32 (i 1).val) 0#32))) 0#32) = 1#1 <;>
  by_cases hc1 : k0_cond2 i = 1#1
  all_goals
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdealFrame.lean ====
module

public import proofs.«01_k».proof.Proof.KernelIdealRun
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

/-- Each window's current staging buffer at point `t`. -/
abbrev ms0_0 (t : Fin cfg0.N) : Memref sig .tc .vmem S1x256x4096 .bf16 := win0_0.stage (cfg0.slots t 0)
abbrev ms0_1 (t : Fin cfg0.N) : Memref sig .tc .vmem S1x256x4096 .bf16 := win0_1.stage (cfg0.slots t 1)
abbrev ms0_2 (t : Fin cfg0.N) : Memref sig .tc .vmem S1x4096 .f32 := win0_2.stage (cfg0.slots t 2)
abbrev ms0_3 (t : Fin cfg0.N) : Memref sig .tc .vmem S8x1024 .f32 := win0_3.stage (cfg0.slots t 3)
abbrev ms0_4 (t : Fin cfg0.N) : Memref sig .tc .vmem S1x4096 .f32 := win0_4.stage (cfg0.slots t 4)
abbrev ms0_5 (t : Fin cfg0.N) : Memref sig .tc .vmem S1x256x4096 .fp8e5m2 := win0_5.stage (cfg0.slots t 5)
abbrev ms0_6 (t : Fin cfg0.N) : Memref sig .tc .vmem S1x1x256 .f32 := win0_6.stage (cfg0.slots t 6)
/-- The scratch operands: whole buffers of the kernel's own. -/
abbrev scM0_0 : Memref sig .tc .vmem S256x4096 .f32 := Memref.whole cc0_scratch0
abbrev scM0_1 : Memref sig .tc .vmem S256x4096 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S8x4096 .f32 := Memref.whole cc0_scratch4

/-- The invariant between points, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- The output windows of which nothing is said here. -/
def forgets0 : Fin 7 → Bool := fun w => w.val == 4 || w.val == 5 || w.val == 6

/-- The proof data: the arrays as the region finds them; after the body each input's buffer at its block — the `rstd`
    window's last block overhangs its array, and past the array's end any word will do —; the outputs unnamed; between
    points every scratch buffer at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .f32 0#32) (iblk m c 3 t)
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) :
    (fdats m 0 c).after 3 t = win0_3.fill (grid0.coords t) (fun _ => Scalar.ofBits .f32 0#32) (iblk m c 3 t) := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d

/-- The `rstd` window's buffer at any point holds its block on the rows inside the array and anything past them, for any
    proof data that leaves the block in place there. -/
theorem before0_3_of {c : Dev nD} (dat : Dat τ (Elt F) Unit ℕ (UR sig nD τ) ℕ cfg0 c) (hA : dat.A 3 = V m c (Pipeline.arrRef spec0 3))
    (hafter : ∀ t, dat.after 3 t = win0_3.fill (grid0.coords t) (fun _ => Scalar.ofBits .f32 0#32) (iblk m c 3 t)) (t : Fin cfg0.N) (d) :
    dat.before 3 t d = win0_3.fill (grid0.coords t) d (iblk m c 3 t) :=
  (dat.before_in_eq_fetched 3 rfl (fun _ => rfl) (fun t t' h => by
      exact funext fun a => congrArg (fun n => Pipeline.Clip.of n (S8x1024.size a) (S57x1024.size a)) (congrFun h a))
    (fun t => by
      rw [hafter]; unfold Dat.blockOf iblk; rw [hA]
      exact win0_3.cut_fill _ _ _) t d).trans
    (by unfold Dat.fetched Dat.blockOf iblk; rw [hA]; try rfl)
theorem fbefore_3 (c : Dev nD) (t : Fin cfg0.N) (d) :
    (fdats m 0 c).before 3 t d = win0_3.fill (grid0.coords t) d (iblk m c 3 t) :=
  before0_3_of m (fdats m 0 c) (fA_eq m c 3) (fafter_3 m c) t d

/-! ## The body obligation -/

theorem defs₀_row (t : Fin cfg0.N) :
    defs₀ (F := F) .tc cfg0.body (cfg0.bodyArgs t (cfg0.slots t)) = bodyAt0 t := by
  unfold defs₀; rw [Defs.onTc_tc]

/-- What the body is called with at point `t`, -/
def fbodyPre (c : Dev nD) (t : Fin cfg0.N) : sProp 𝕄 :=
  iprop((fdats m 0 c).Φ t.castSucc ∗ (fdats m 0 c).owesAt () t.castSucc
    ∗ (∃ d, owns (c : Thread nD τ) (ms0_0 t) fullShare ((fdats m 0 c).before 0 t d))
    ∗ (∃ d, owns (c : Thread nD τ) (ms0_1 t) fullShare ((fdats m 0 c).before 1 t d))
    ∗ (∃ d, owns (c : Thread nD τ) (ms0_2 t) fullShare ((fdats m 0 c).before 2 t d))
    ∗ (∃ d, owns (c : Thread nD τ) (ms0_3 t) fullShare ((fdats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns: the `rstd` buffer stated on the rows inside the array only. -/
def fbodyPost (c : Dev nD) (t : Fin cfg0.N) : sProp 𝕄 :=
  iprop((fdats m 0 c).Φ t.succ ∗ (fdats m 0 c).owesAt () t.succ
    ∗ owns (c : Thread nD τ) (ms0_0 t) fullShare ((fdats m 0 c).after 0 t)
    ∗ owns (c : Thread nD τ) (ms0_1 t) fullShare ((fdats m 0 c).after 1 t)
    ∗ owns (c : Thread nD τ) (ms0_2 t) fullShare ((fdats m 0 c).after 2 t)
    ∗ (∃ d, owns (c : Thread nD τ) (ms0_3 t) fullShare (win0_3.fill (grid0.coords t) d (win0_3.cut (grid0.coords t) ((fdats m 0 c).after 3 t))))
    ∗ (∃ d, owns (c : Thread nD τ) (ms0_4 t) fullShare d)
    ∗ (∃ d, owns (c : Thread nD τ) (ms0_5 t) fullShare d)
    ∗ (∃ d, owns (c : Thread nD τ) (ms0_6 t) fullShare d))

theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [fafter_0, fafter_1, fafter_2, fafter_3, win0_3.cut_fill]
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, H4, H5, H6⟩
  rw [fbefore_0 m c t d0, fbefore_1 m c t d1, fbefore_2 m c t d2, fbefore_3 m c t d3]
  iapply (body_runs c (grid0.coords t) _ _ _ _ _ _ _ _ _ _ _ _ _ _ _ _ _ _ _ _ _ _ _ _ (iblk m c 0 t) (iblk m c 1 t) (iblk m c 2 t)
    (win0_3.fill (grid0.coords t) d3 (iblk m c 3 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists d3; iexact H3
  isplitl [H4]; · iexact H4
  isplitl [H5]; · iexact H5
  iexact H6

theorem fbody_obligation (c : Dev nD) : BodyObligationLoose (fdats (F := F) m 0 c) (defs₀ (F := F)) Variants.none () Set.univ forgets0 := fun t => by
  rw [bigSep_W0, bigSep_W0, defs₀_row]
  exact triple_restated (fsound_body m c t) rfl .rfl fun _ => .rfl

/-! ## The run and the frame -/

set_option backward.isDefEq.respectTransparency.types false in
/-- Every fair execution ends, with every input array unchanged and every semaphore counter at zero. -/
theorem run_main_quiescent : θ_run defs (onTc (τ := τ) (main (F := F))) (s₀ m ρ) (fun r => (Pipeline.RDat.FramePost (cfgs 0) (fun c => (fdats m 0 c).toRForget forgets0) (V m)) r ∧ r.2.sem = fun _ => 0) :=
  Pipeline.θ_run_frame_track_forget (Q' := _) cfgs (fdats m) (0 : Fin 1) launch0 defs₀ Variants.none forgets0 m ρ main
    (hbody := fun c => fbody_obligation m c) (hshare := fun c => (fdats m 0 c).share_full fun _ => rfl)
    (howed := fun _ _ => rfl) (V := V m) (hmain := hmain m Variants.none) (hA := fA_eq m) (hin := fun _ => .rfl) (hout := fun _ => .rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h.1 c 0 rfl).trans ((fA_eq m c 0).trans (V_main_arg0 m c)),
      (Pipeline.RDat.FramePost.arr_in h.1 c 1 rfl).trans ((fA_eq m c 1).trans (V_main_arg1 m c)),
      ((h.1 c).2 main_arg2 (Pipeline.mem_restRefs_of main_arg2 (by decide) (by decide))).trans (V_main_arg2 m c),
      (Pipeline.RDat.FramePost.arr_in h.1 c 3 rfl).trans ((fA_eq m c 3).trans (V_main_arg3 m c))⟩) (run_main_quiescent m ρ)

/-- The frame claim at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Powers.lean ====
module

public import Idealize.ShloMosaic.Lib.Pointwise
public import Idealize.ShloMosaic.Lib.IdealHost

@[expose] public section

noncomputable section

/-! # Powers of two by their exponent field

The kernel finds the exponent of a value by comparing it with powers of two whose bits it writes down, and writes a power
of two down by its bits. Here those words are read as numbers, and the search for the exponent is shown to find the
largest field whose power is at most the value. -/

namespace Cert.Powers

open Idealize.ShloMosaic

/-- The number whose float32 exponent field is `n` and whose other bits are 0: 0, then the powers of two, then infinity. -/
def pw (n : ℕ) : EReal := Ideal.ofBits .f32 (BitVec.ofNat 32 n <<< 23)

theorem field_bits : ∀ n : Fin 256, ((BitVec.ofNat 32 n.val <<< 23).extractLsb' (8 + 23) 1 == 1#1) = false
    ∧ ((BitVec.ofNat 32 n.val <<< 23).extractLsb' 23 8).toNat = n.val
    ∧ ((BitVec.ofNat 32 n.val <<< 23).extractLsb' 0 23).toNat = 0 := by decide

theorem pw_eq (n : ℕ) (h : n < 256) :
    pw n = if n = 255 then ⊤ else if n = 0 then 0 else (((2 : ℝ) ^ ((n : ℤ) - 127) : ℝ) : EReal) := by
  obtain ⟨h1, h2, h3⟩ := field_bits ⟨n, h⟩
  dsimp only at h1 h2 h3
  have hr : ((if false = true then (-1 : ℝ) else 1) * ((2 ^ 23 + 0 : ℕ) : ℝ) * (2 : ℝ) ^ ((n : ℤ) - (2 ^ (8 - 1) - 1) - (23 : ℕ)))
      = (2 : ℝ) ^ ((n : ℤ) - 127) := by
    rw [show ((n : ℤ) - (2 ^ (8 - 1) - 1) - (23 : ℕ)) = ((n : ℤ) - 127) + (-23) by norm_num; ring, zpow_add₀ (by norm_num : (2 : ℝ) ≠ 0)]
    norm_num
    ring
  have hz : ((if false = true then (-1 : ℝ) else 1) * ((0 : ℕ) : ℝ) * (2 : ℝ) ^ (1 - (2 ^ (8 - 1) - 1) - (23 : ℕ) : ℤ)) = 0 := by
    rw [Nat.cast_zero, mul_zero, zero_mul]
  show Ideal.ieee 8 23 (BitVec.ofNat 32 n <<< 23) = _
  unfold Ideal.ieee
  rw [h1, h2, h3]
  dsimp only
  by_cases h255 : n = 255
  · rw [if_pos h255, if_pos (show n = 2 ^ 8 - 1 by omega), if_pos rfl, if_neg (by decide)]
  · rw [if_neg h255, if_neg (show ¬ n = 2 ^ 8 - 1 by omega)]
    by_cases h0 : n = 0
    · rw [if_pos h0, if_pos h0]; exact congrArg Real.toEReal hz
    · rw [if_neg h0, if_neg h0]; exact congrArg Real.toEReal hr

theorem pw_zero : pw 0 = 0 := by rw [pw_eq 0 (by omega)]; simp
theorem pw_top : pw 255 = ⊤ := by rw [pw_eq 255 (by omega)]; simp
theorem pw_mid (n : ℕ) (h0 : 0 < n) (h : n < 255) : pw n = (((2 : ℝ) ^ ((n : ℤ) - 127) : ℝ) : EReal) := by
  rw [pw_eq n (by omega), if_neg (by omega), if_neg (by omega)]

/-- One step of the search: take the bit `b` if the power of the field with it is still at most `v`. -/
def stepN (v : EReal) (k b : ℕ) : ℕ := if pw (k + b) ≤ v then k + b else k

/-- The search from the highest bit down. -/
def fieldN (v : EReal) : ℕ :=
  stepN v (stepN v (stepN v (stepN v (stepN v (stepN v (stepN v (stepN v 0 128) 64) 32) 16) 8) 4) 2) 1

theorem stepN_inv (v : EReal) (k b : ℕ) (hb : k + 2 * b ≤ 256) (h1 : pw k ≤ v) (h2 : k + 2 * b < 256 → v < pw (k + 2 * b)) :
    stepN v k b + b ≤ 256 ∧ pw (stepN v k b) ≤ v ∧ (stepN v k b + b < 256 → v < pw (stepN v k b + b)) := by
  unfold stepN
  split
  next h => exact ⟨by omega, h, fun h' => by rw [show k + b + b = k + 2 * b by omega] at h' ⊢; exact h2 h'⟩
  next h => exact ⟨by omega, h1, fun _ => not_le.mp h⟩

/-- The search finds the largest field whose power is at most `v`. -/
theorem fieldN_spec (v : EReal) (hv : 0 ≤ v) : fieldN v < 256 ∧ pw (fieldN v) ≤ v ∧ (fieldN v < 255 → v < pw (fieldN v + 1)) := by
  unfold fieldN
  obtain ⟨a, b, c⟩ := stepN_inv v 0 128 (by omega) (by rw [pw_zero]; exact hv) (fun h => absurd h (by omega))
  obtain ⟨a, b, c⟩ := stepN_inv v _ 64 a b c
  obtain ⟨a, b, c⟩ := stepN_inv v _ 32 a b c
  obtain ⟨a, b, c⟩ := stepN_inv v _ 16 a b c
  obtain ⟨a, b, c⟩ := stepN_inv v _ 8 a b c
  obtain ⟨a, b, c⟩ := stepN_inv v _ 4 a b c
  obtain ⟨a, b, c⟩ := stepN_inv v _ 2 a b c
  obtain ⟨a, b, c⟩ := stepN_inv v _ 1 a b c
  exact ⟨by omega, b, fun h => c (by omega)⟩

/-- One step on words. -/
def stepB (v : EReal) (f b : BitVec 32) : BitVec 32 :=
  Scalar.select (Ideal.cmp .oge v (Ideal.ofBits .f32 (IntOp.shli .vector (IntOp.addi f b) 23#32))) (IntOp.addi f b) f

/-- The search on words. -/
def fieldB (v : EReal) : BitVec 32 :=
  stepB v (stepB v (stepB v (stepB v (stepB v (stepB v (stepB v (stepB v 0#32 128#32) 64#32) 32#32) 16#32) 8#32) 4#32) 2#32) 1#32

theorem stepB_eq (v : EReal) (k b : ℕ) : stepB v (BitVec.ofNat 32 k) (BitVec.ofNat 32 b) = BitVec.ofNat 32 (stepN v k b) := by
  unfold stepB stepN Scalar.select IntOp.addi Ideal.cmp
  rw [← BitVec.ofNat_add]
  have h : Ideal.ofBits .f32 (IntOp.shli .vector (BitVec.ofNat 32 (k + b)) 23#32) = pw (k + b) := rfl
  rw [h]
  by_cases hp : pw (k + b) ≤ v
  · rw [if_pos hp]; simp [hp]
  · rw [if_neg hp]; simp [hp]

theorem fieldB_eq (v : EReal) : fieldB v = BitVec.ofNat 32 (fieldN v) := by
  unfold fieldB fieldN
  rw [show (0#32 : BitVec 32) = BitVec.ofNat 32 0 from rfl]
  iterate 8 rw [stepB_eq]

/-- The scale's exponent from the field: 0 for zero and infinity, else the field less 126. -/
def expB (f : BitVec 32) : BitVec 32 :=
  Scalar.select (IntOp.ori (IntOp.cmpi .eq f 0#32) (IntOp.cmpi .eq f 255#32)) 0#32 (IntOp.subi f 126#32)

/-- A power of two by its exponent: 0 below the field's range, infinity above it. -/
def powB (n : BitVec 32) : EReal :=
  Scalar.select (IntOp.cmpi .sle (IntOp.addi n 127#32) 0#32) 0
    (Scalar.select (IntOp.cmpi .sge (IntOp.addi n 127#32) 255#32) (Ideal.ofBits .f32 0x7F800000#32)
      (Ideal.ofBits .f32 (IntOp.shli .vector (IntOp.addi n 127#32) 23#32)))

/-- The exponent as an integer. -/
def expI (k : ℕ) : ℤ := if k = 0 ∨ k = 255 then 0 else (k : ℤ) - 126

theorem powB_ofInt : ∀ k : Fin 256,
    (IntOp.addi (expB (BitVec.ofNat 32 k.val)) 127#32 = BitVec.ofNat 32 (expI k.val + 127).toNat ∧ 0 < (expI k.val + 127).toNat ∧ (expI k.val + 127).toNat < 256)
    ∧ IntOp.addi (IntOp.subi 0#32 (expB (BitVec.ofNat 32 k.val))) 127#32 = BitVec.ofInt 32 (127 - expI k.val)
    ∧ (127 - expI k.val).toNat < 253 := by decide

end Cert.Powers

end
-- ==== Proof.Trips.lean ====
module

public import proofs.«01_k».proof.Proof.Gen.KernelIdeal.Loops

@[expose] public section

set_option maxRecDepth 8192

/-! What ONE trip of each of the three row loops stores, in one uniform form. A trip handles a band of
32 rows, one tile of 128 columns after the other: the 32 tiles differ in the column offset alone. Here
the band's tiles are indexed by their number, and the trip's list of stores is a map over these. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The 32 tiles of a band, last first (the order in which a run lists its stores). -/
def cols : List (Fin 32) := [⟨31, by decide⟩, ⟨30, by decide⟩, ⟨29, by decide⟩, ⟨28, by decide⟩, ⟨27, by decide⟩, ⟨26, by decide⟩, ⟨25, by decide⟩, ⟨24, by decide⟩, ⟨23, by decide⟩, ⟨22, by decide⟩, ⟨21, by decide⟩, ⟨20, by decide⟩, ⟨19, by decide⟩, ⟨18, by decide⟩, ⟨17, by decide⟩, ⟨16, by decide⟩, ⟨15, by decide⟩, ⟨14, by decide⟩, ⟨13, by decide⟩, ⟨12, by decide⟩, ⟨11, by decide⟩, ⟨10, by decide⟩, ⟨9, by decide⟩, ⟨8, by decide⟩, ⟨7, by decide⟩, ⟨6, by decide⟩, ⟨5, by decide⟩, ⟨4, by decide⟩, ⟨3, by decide⟩, ⟨2, by decide⟩, ⟨1, by decide⟩, ⟨0, by decide⟩]

theorem mem_cols (q : Fin 32) : q ∈ cols := by revert q; decide

/-- Where tile `q` of the band of trip `k` begins in a block of 256 rows (loop 1). -/
def off1 (k : Fin k0_t1_loop.trips) (q : Fin 32) : Fin 2 → Nat := ![k0_off2 k 0, 128 * q.val]

theorem off1_eq (k : Fin k0_t1_loop.trips) (q : Fin 32) : off1 k q = ![32 * k.val, 128 * q.val] := by
  unfold off1; rw [k0_off2_eq]; rfl

theorem off1_inb (k : Fin k0_t1_loop.trips) (q : Fin 32) : ∀ a, off1 k q a + S32x128.size a ≤ S256x4096.size a := by
  revert k q; decide +kernel

/-- Tile `q` of the band of trip `k`, as a rectangle. -/
abbrev rect1 (k : Fin k0_t1_loop.trips) (q : Fin 32) : Rect S256x4096 :=
  Rect.unit (s := S256x4096) (off1 k q) S32x128.size (off1_inb k q)

/-- The band of trip `k` in an array with one lane tile. -/
abbrev band1 (k : Fin k0_t1_loop.trips) : Rect S256x128 :=
  Rect.unit (s := S256x128) (k0_off2 k) S32x128.size (k0_off2_inb k)

/-- Where tile `q` of the band of trip `k` begins in a block with a leading unit axis (loop 1). -/
def boff1 (k : Fin k0_t1_loop.trips) (q : Fin 32) : Fin 3 → Nat := ![0, k0_off2 k 0, 128 * q.val]

theorem boff1_eq (k : Fin k0_t1_loop.trips) (q : Fin 32) : boff1 k q = ![0, 32 * k.val, 128 * q.val] := by
  unfold boff1; rw [k0_off2_eq]; rfl

theorem boff1_inb (k : Fin k0_t1_loop.trips) (q : Fin 32) : ∀ a, boff1 k q a + S1x32x128.size a ≤ S1x256x4096.size a := by
  revert k q; decide +kernel

/-- The same tile in a block with a leading unit axis. -/
abbrev brect1 (k : Fin k0_t1_loop.trips) (q : Fin 32) : Rect S1x256x4096 :=
  Rect.unit (s := S1x256x4096) (boff1 k q) S1x32x128.size (boff1_inb k q)

/-- Where tile `q` of the band of trip `k` begins in a block of 256 rows (loop 2). -/
def off2 (k : Fin k0_t2_loop.trips) (q : Fin 32) : Fin 2 → Nat := ![k0_off67 k 0, 128 * q.val]

theorem off2_eq (k : Fin k0_t2_loop.trips) (q : Fin 32) : off2 k q = ![32 * k.val, 128 * q.val] := by
  unfold off2; rw [k0_off67_eq]; rfl

theorem off2_inb (k : Fin k0_t2_loop.trips) (q : Fin 32) : ∀ a, off2 k q a + S32x128.size a ≤ S256x4096.size a := by
  revert k q; decide +kernel

/-- Tile `q` of the band of trip `k`, as a rectangle. -/
abbrev rect2 (k : Fin k0_t2_loop.trips) (q : Fin 32) : Rect S256x4096 :=
  Rect.unit (s := S256x4096) (off2 k q) S32x128.size (off2_inb k q)

/-- The band of trip `k` in an array with one lane tile. -/
abbrev band2 (k : Fin k0_t2_loop.trips) : Rect S256x128 :=
  Rect.unit (s := S256x128) (k0_off67 k) S32x128.size (k0_off67_inb k)

/-- Where tile `q` of the band of trip `k` begins in a block of 256 rows (loop 3). -/
def off3 (k : Fin k0_t3_loop.trips) (q : Fin 32) : Fin 2 → Nat := ![k0_off100 k 0, 128 * q.val]

theorem off3_eq (k : Fin k0_t3_loop.trips) (q : Fin 32) : off3 k q = ![32 * k.val, 128 * q.val] := by
  unfold off3; rw [k0_off100_eq]; rfl

theorem off3_inb (k : Fin k0_t3_loop.trips) (q : Fin 32) : ∀ a, off3 k q a + S32x128.size a ≤ S256x4096.size a := by
  revert k q; decide +kernel

/-- Tile `q` of the band of trip `k`, as a rectangle. -/
abbrev rect3 (k : Fin k0_t3_loop.trips) (q : Fin 32) : Rect S256x4096 :=
  Rect.unit (s := S256x4096) (off3 k q) S32x128.size (off3_inb k q)

/-- The band of trip `k` in an array with one lane tile. -/
abbrev band3 (k : Fin k0_t3_loop.trips) : Rect S256x128 :=
  Rect.unit (s := S256x128) (k0_off100 k) S32x128.size (k0_off100_inb k)

/-- Where tile `q` of the band of trip `k` begins in a block with a leading unit axis (loop 3). -/
def boff3 (k : Fin k0_t3_loop.trips) (q : Fin 32) : Fin 3 → Nat := ![0, k0_off100 k 0, 128 * q.val]

theorem boff3_eq (k : Fin k0_t3_loop.trips) (q : Fin 32) : boff3 k q = ![0, 32 * k.val, 128 * q.val] := by
  unfold boff3; rw [k0_off100_eq]; rfl

theorem boff3_inb (k : Fin k0_t3_loop.trips) (q : Fin 32) : ∀ a, boff3 k q a + S1x32x128.size a ≤ S1x256x4096.size a := by
  revert k q; decide +kernel

/-- The same tile in a block with a leading unit axis. -/
abbrev brect3 (k : Fin k0_t3_loop.trips) (q : Fin 32) : Rect S1x256x4096 :=
  Rect.unit (s := S1x256x4096) (boff3 k q) S1x32x128.size (boff3_inb k q)

/-- Tile `q` of the row of column weights. -/
theorem goff_inb (q : Fin 32) : ∀ a, (![0, 128 * q.val] : Fin 2 → Nat) a + S1x128.size a ≤ S1x4096.size a := by
  revert q; decide +kernel
abbrev grect (q : Fin 32) : Rect S1x4096 := Rect.unit (s := S1x4096) ![0, 128 * q.val] S1x128.size (goff_inb q)

/-- Tile `q` of the eight accumulator rows. -/
theorem aoff_inb (q : Fin 32) : ∀ a, (![0, 128 * q.val] : Fin 2 → Nat) a + S8x128.size a ≤ S8x4096.size a := by
  revert q; decide +kernel
abbrev arect (q : Fin 32) : Rect S8x4096 := Rect.unit (s := S8x4096) ![0, 128 * q.val] S8x128.size (aoff_inb q)

section
variable (𝒱 : Variants) (c : Dev nD) (bd : Option 𝒱.V) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole) (v20 : IVec S8x128 1) (v36 : BitVec 32)

/-! ## The second loop: `u = g - xhat * c` and its largest magnitude -/

section
variable (X9 : BufTy.Contents (Elt F) arg9.view.ty) (k : Fin k0_t2_loop.trips)
  (f10 : BufTy.Contents (Elt F) arg10.view.ty) (f12 : BufTy.Contents (Elt F) arg12.view.ty)

theorem trip2_u :
    (trip_k0_t2 (F := F) 𝒱 c bd i arg2 harg2 arg3 harg3 arg4 harg4 arg5 harg5 arg6 harg6 arg7 harg7 arg8 harg8 arg9 harg9 arg10 harg10 arg11 harg11 arg12 harg12 arg13 harg13 v20 v36 X9 k).1 f10 f12 = cols.map fun q =>
      (⟨rect2 k q, k0_pay239 (arg12.view.readAt (Elt F) (band2 k).toLoadRect f12)
          (arg10.view.readAt (Elt F) (rect2 k q).toLoadRect f10) (arg9.view.readAt (Elt F) (rect2 k q).toLoadRect X9)⟩ :
        View.Piece (Elt F) S256x4096 .f32) := by
  unfold trip_k0_t2
  rfl

theorem trip2_top :
    (trip_k0_t2 (F := F) 𝒱 c bd i arg2 harg2 arg3 harg3 arg4 harg4 arg5 harg5 arg6 harg6 arg7 harg7 arg8 harg8 arg9 harg9 arg10 harg10 arg11 harg11 arg12 harg12 arg13 harg13 v20 v36 X9 k).2.1 f10 f12 =
      [(⟨band2 k, shapeCast S32x128 (cols.foldr (fun q a => maximumf a
          (absf (k0_pay238 (arg12.view.readAt (Elt F) (band2 k).toLoadRect f12)
            (arg10.view.readAt (Elt F) (rect2 k q).toLoadRect f10) (arg9.view.readAt (Elt F) (rect2 k q).toLoadRect X9))))
          (broadcast S32x128 (Scalar.ofBits .f32 0x00000000#32 : F .f32))) shapeCasts_S32x128_S32x128⟩ :
        View.Piece (Elt F) S256x128 .f32)] := by
  unfold trip_k0_t2
  rfl
end

/-! ## The first loop: `xhat`, `g`, the row sums' lane parts and the column sums -/

section
variable (X2 : BufTy.Contents (Elt F) arg2.view.ty) (X3 : BufTy.Contents (Elt F) arg3.view.ty)
  (X4 : BufTy.Contents (Elt F) arg4.view.ty) (X11 : BufTy.Contents (Elt F) arg11.view.ty) (k : Fin k0_t1_loop.trips)
  (f9 : BufTy.Contents (Elt F) arg9.view.ty) (f10 : BufTy.Contents (Elt F) arg10.view.ty)
  (f12 : BufTy.Contents (Elt F) arg12.view.ty) (f13 : BufTy.Contents (Elt F) arg13.view.ty)

theorem trip1_xhat :
    (trip_k0_t1 (F := F) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).1 f9 f10 f12 f13 = cols.map fun q =>
      (⟨rect1 k q, k0_pay9 (arg11.view.readAt (Elt F) (band1 k).toLoadRect X11)
          (arg2.view.readAt (Elt F) (brect1 k q).toLoadRect X2)⟩ : View.Piece (Elt F) S256x4096 .f32) := by
  unfold trip_k0_t1
  rfl

theorem trip1_g :
    (trip_k0_t1 (F := F) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.1 f9 f10 f12 f13 = cols.map fun q =>
      (⟨rect1 k q, k0_pay10 (arg3.view.readAt (Elt F) (brect1 k q).toLoadRect X3)
          (arg4.view.readAt (Elt F) (grect q).toLoadRect X4)⟩ : View.Piece (Elt F) S256x4096 .f32) := by
  unfold trip_k0_t1
  rfl

theorem trip1_part :
    (trip_k0_t1 (F := F) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.2.1 f9 f10 f12 f13 =
      [(⟨band1 k, shapeCast S32x128 (cols.foldr (fun q a => addf a
          (mulf (k0_pay8 (arg3.view.readAt (Elt F) (brect1 k q).toLoadRect X3) (arg4.view.readAt (Elt F) (grect q).toLoadRect X4))
            (k0_pay6 (arg11.view.readAt (Elt F) (band1 k).toLoadRect X11) (arg2.view.readAt (Elt F) (brect1 k q).toLoadRect X2))))
          (broadcast S32x128 (Scalar.ofBits .f32 0x00000000#32 : F .f32))) shapeCasts_S32x128_S32x128⟩ :
        View.Piece (Elt F) S256x128 .f32)] := by
  unfold trip_k0_t1
  rfl

theorem trip1_acc :
    (trip_k0_t1 (F := F) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.2.2.1 f9 f10 f12 f13 = cols.map fun q =>
      (⟨arect q, k0_pay12 (arg11.view.readAt (Elt F) (band1 k).toLoadRect X11)
          (arg2.view.readAt (Elt F) (brect1 k q).toLoadRect X2) (arg3.view.readAt (Elt F) (brect1 k q).toLoadRect X3)
          (arg13.view.readAt (Elt F) (arect q).toLoadRect f13)⟩ : View.Piece (Elt F) S8x4096 .f32) := by
  unfold trip_k0_t1
  rfl
end

/-! ## The third loop: the codes -/

theorem trip3_codes (X10 : BufTy.Contents (Elt F) arg10.view.ty) (X12 : BufTy.Contents (Elt F) arg12.view.ty)
    (k : Fin k0_t3_loop.trips) :
    (trip_k0_t3 (F := F) 𝒱 c bd i arg2 harg2 arg3 harg3 arg4 harg4 arg5 harg5 arg6 harg6 arg7 harg7 arg8 harg8 arg9 harg9 arg10 harg10 arg11 harg11 arg12 harg12 arg13 harg13 X10 X12 k).1 = cols.map fun q =>
      (⟨brect3 k q, k0_pay340 (arg12.view.readAt (Elt F) (band3 k).toLoadRect X12)
          (arg10.view.readAt (Elt F) (rect3 k q).toLoadRect X10)⟩ : View.Piece (Elt F) S1x256x4096 .fp8e5m2) := by
  unfold trip_k0_t3
  rfl

end

end Cert.KernelIdeal.Gen
-- ==== Proof.Bands.lean ====
module

public import proofs.«01_k».proof.Proof.Trips
public import Idealize.ShloMosaic.Lib.Writes
public import Idealize.ShloMosaic.Lib.Pointwise
public import Idealize.ShloMosaic.Lib.Pipeline.ValueKit

@[expose] public section

set_option maxRecDepth 8192

/-! Reading an array back after one trip's stores: the tiles of one band, and what a tile of an array is. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Column `l` of tile `q`. -/
def col (q : Fin 32) (l : Fin 128) : Fin 4096 := ⟨128 * q.val + l.val, by omega⟩
/-- The tile of a column, and its lane in it. -/
def tile (j : Fin 4096) : Fin 32 := ⟨j.val / 128, by omega⟩
def lane (j : Fin 4096) : Fin 128 := ⟨j.val % 128, by omega⟩

theorem col_tile_lane (j : Fin 4096) : col (tile j) (lane j) = j := Fin.ext (by simp only [col, tile, lane]; omega)
theorem tile_col (q : Fin 32) (l : Fin 128) : tile (col q l) = q := Fin.ext (by simp only [col, tile]; omega)
theorem lane_col (q : Fin 32) (l : Fin 128) : lane (col q l) = l := Fin.ext (by simp only [col, lane]; omega)

section
variable {Val : EltTy → Type} {e : EltTy}

/-- A tile of a block of 256 rows, read at an index. -/
theorem tile_ld (v : View sig .tc .vmem S256x4096 e) (f : v.ty.Contents Val) {off : Fin 2 → ℕ} {a : ℕ} {q : Fin 32}
    (h : off = ![a, 128 * q.val]) (inb : ∀ b, off b + S32x128.size b ≤ S256x4096.size b) (i : Fin 32) (l : Fin 128)
    (r : Fin 256) (hr : a + i.val = r.val) :
    v.readAt Val (Rect.unit (s := S256x4096) off S32x128.size inb).toLoadRect f (ix2 i l : S32x128.Idx) = v.read Val f (ix2 r (col q l)) := by
  subst h
  show v.read Val f ((Rect.unit (s := S256x4096) _ S32x128.size inb).emb (ix2 i l)) = _
  congr 1
  funext b
  match b with
  | ⟨0, _⟩ => exact Fin.ext ((ValueKit.rect_emb_unit_val ..).trans hr)
  | ⟨1, _⟩ => exact Fin.ext (ValueKit.rect_emb_unit_val ..)

/-- A band of an array with one lane tile, read at an index. -/
theorem band_ld (v : View sig .tc .vmem S256x128 e) (f : v.ty.Contents Val) {off : Fin 2 → ℕ} {a : ℕ}
    (h : off = ![a, 0]) (inb : ∀ b, off b + S32x128.size b ≤ S256x128.size b) (i : Fin 32) (l : Fin 128)
    (r : Fin 256) (hr : a + i.val = r.val) :
    v.readAt Val (Rect.unit (s := S256x128) off S32x128.size inb).toLoadRect f (ix2 i l : S32x128.Idx) = v.read Val f (ix2 r l) := by
  subst h
  show v.read Val f ((Rect.unit (s := S256x128) _ S32x128.size inb).emb (ix2 i l)) = _
  congr 1
  funext b
  match b with
  | ⟨0, _⟩ => exact Fin.ext ((ValueKit.rect_emb_unit_val ..).trans hr)
  | ⟨1, _⟩ => exact Fin.ext ((ValueKit.rect_emb_unit_val ..).trans (Nat.zero_add _))

/-- A tile of a block with a leading unit axis, read at an index. -/
theorem btile_ld (v : View sig .tc .vmem S1x256x4096 e) (f : v.ty.Contents Val) {off : Fin 3 → ℕ} {a : ℕ} {q : Fin 32}
    (h : off = ![0, a, 128 * q.val]) (inb : ∀ b, off b + S1x32x128.size b ≤ S1x256x4096.size b) (i : Fin 32) (l : Fin 128)
    (r : Fin 256) (hr : a + i.val = r.val) :
    v.readAt Val (Rect.unit (s := S1x256x4096) off S1x32x128.size inb).toLoadRect f (ix3 0 i l : S1x32x128.Idx)
      = v.read Val f (ix3 0 r (col q l)) := by
  subst h
  show v.read Val f ((Rect.unit (s := S1x256x4096) _ S1x32x128.size inb).emb (ix3 0 i l)) = _
  congr 1
  funext b
  match b with
  | ⟨0, _⟩ => exact Fin.ext (ValueKit.rect_emb_unit_val ..)
  | ⟨1, _⟩ => exact Fin.ext ((ValueKit.rect_emb_unit_val ..).trans hr)
  | ⟨2, _⟩ => exact Fin.ext (ValueKit.rect_emb_unit_val ..)

/-- A tile of the row of column weights, read at an index. -/
theorem gtile_ld (v : View sig .tc .vmem S1x4096 e) (f : v.ty.Contents Val) (q : Fin 32) (l : Fin 128) :
    v.readAt Val (grect q).toLoadRect f (ix2 0 l : S1x128.Idx) = v.read Val f (ix2 0 (col q l)) := by
  show v.read Val f ((grect q).emb (ix2 0 l)) = _
  congr 1
  funext b
  match b with
  | ⟨0, _⟩ => exact Fin.ext (ValueKit.rect_emb_unit_val ..)
  | ⟨1, _⟩ => exact Fin.ext (ValueKit.rect_emb_unit_val ..)

/-- A tile of the eight accumulator rows, read at an index. -/
theorem atile_ld (v : View sig .tc .vmem S8x4096 e) (f : v.ty.Contents Val) (q : Fin 32) (i : Fin 8) (l : Fin 128) :
    v.readAt Val (arect q).toLoadRect f (ix2 i l : S8x128.Idx) = v.read Val f (ix2 i (col q l)) := by
  show v.read Val f ((arect q).emb (ix2 i l)) = _
  congr 1
  funext b
  match b with
  | ⟨0, _⟩ => exact Fin.ext ((ValueKit.rect_emb_unit_val ..).trans (Nat.zero_add _))
  | ⟨1, _⟩ => exact Fin.ext (ValueKit.rect_emb_unit_val ..)

/-- After the 32 tiles of a band are stored: the band holds them, the other rows what they held. -/
theorem tiles_read (v : View sig .tc .vmem S256x4096 e) (f : v.ty.Contents Val) {off : Fin 32 → Fin 2 → ℕ} {a : ℕ}
    (h : ∀ q, off q = ![a, 128 * q.val]) (inb : ∀ q b, off q b + S32x128.size b ≤ S256x4096.size b)
    (w : Fin 32 → S32x128.Idx → Val e) (r : Fin 256) (j : Fin 4096) :
    v.read Val (v.writes Val f (cols.map fun q => (⟨Rect.unit (s := S256x4096) (off q) S32x128.size (inb q), w q⟩ : View.Piece Val S256x4096 e))) (ix2 r j)
      = if hr : a ≤ r.val ∧ r.val < a + 32 then w (tile j) (ix2 ⟨r.val - a, by omega⟩ (lane j)) else v.read Val f (ix2 r j) := by
  obtain rfl : off = fun q => ![a, 128 * q.val] := funext h
  by_cases hr : a ≤ r.val ∧ r.val < a + 32
  · rw [dif_pos hr]
    have key := v.read_writes_apply_of_pieces f (Val := Val) (fun y : S256x4096.Idx =>
      if hy : a ≤ (y 0).val ∧ (y 0).val < a + 32 then w (tile (y 1)) (ix2 ⟨(y 0).val - a, by omega⟩ (lane (y 1))) else v.read Val f y)
      (cols.map fun q => (⟨Rect.unit (s := S256x4096) ![a, 128 * q.val] S32x128.size (inb q), w q⟩ : View.Piece Val S256x4096 e)) ?_ (ix2 r j) ?_
    · refine key.trans ?_
      exact dif_pos hr
    · intro p hp x
      obtain ⟨q, _, rfl⟩ := List.mem_map.mp hp
      have ha : a + 32 ≤ 256 := inb q 0
      obtain ⟨i, l, rfl⟩ : ∃ (i : Fin 32) (l : Fin 128), x = (ix2 i l : S32x128.Idx) := ⟨x 0, x 1, eq_ix2 x⟩
      have he : (Rect.unit (s := S256x4096) ![a, 128 * q.val] S32x128.size (inb q)).emb (ix2 i l) = ix2 (⟨a + i.val, by omega⟩ : Fin 256) (col q l) := by
        funext b
        match b with
        | ⟨0, _⟩ => exact Fin.ext (ValueKit.rect_emb_unit_val ..)
        | ⟨1, _⟩ => exact Fin.ext (ValueKit.rect_emb_unit_val ..)
      dsimp only
      rw [he]
      refine Eq.symm ((dif_pos (show a ≤ a + i.val ∧ a + i.val < a + 32 by omega)).trans ?_)
      show w (tile (col q l)) (ix2 ⟨a + i.val - a, _⟩ (lane (col q l))) = w q (ix2 i l)
      rw [tile_col, lane_col]
      congr 1
      funext b
      match b with
      | ⟨0, _⟩ => exact Fin.ext (Nat.add_sub_cancel_left ..)
      | ⟨1, _⟩ => rfl
    · refine ⟨_, List.mem_map.mpr ⟨tile j, mem_cols _, rfl⟩, ?_⟩
      rw [Rect.mem_set_unit]
      intro b
      match b with
      | ⟨0, _⟩ => exact ⟨hr.1, hr.2⟩
      | ⟨1, _⟩ => exact ⟨by show 128 * (j.val / 128) ≤ j.val; omega, by show j.val < 128 * (j.val / 128) + 128; omega⟩
  · rw [dif_neg hr]
    refine v.read_writes_apply_of_forall_not_mem f (ix2 r j) _ fun p hp hm => ?_
    obtain ⟨q, _, rfl⟩ := List.mem_map.mp hp
    rw [Rect.mem_set_unit] at hm
    exact hr (hm 0)

/-- The same for a block with a leading unit axis. -/
theorem btiles_read (v : View sig .tc .vmem S1x256x4096 e) (f : v.ty.Contents Val) {off : Fin 32 → Fin 3 → ℕ} {a : ℕ}
    (h : ∀ q, off q = ![0, a, 128 * q.val]) (inb : ∀ q b, off q b + S1x32x128.size b ≤ S1x256x4096.size b)
    (w : Fin 32 → S1x32x128.Idx → Val e) (r : Fin 256) (j : Fin 4096) :
    v.read Val (v.writes Val f (cols.map fun q => (⟨Rect.unit (s := S1x256x4096) (off q) S1x32x128.size (inb q), w q⟩ : View.Piece Val S1x256x4096 e))) (ix3 0 r j)
      = if hr : a ≤ r.val ∧ r.val < a + 32 then w (tile j) (ix3 0 ⟨r.val - a, by omega⟩ (lane j)) else v.read Val f (ix3 0 r j) := by
  obtain rfl : off = fun q => ![0, a, 128 * q.val] := funext h
  by_cases hr : a ≤ r.val ∧ r.val < a + 32
  · rw [dif_pos hr]
    have key := v.read_writes_apply_of_pieces f (Val := Val) (fun y : S1x256x4096.Idx =>
      if hy : a ≤ (y 1).val ∧ (y 1).val < a + 32 then w (tile (y 2)) (ix3 0 ⟨(y 1).val - a, by omega⟩ (lane (y 2))) else v.read Val f y)
      (cols.map fun q => (⟨Rect.unit (s := S1x256x4096) ![0, a, 128 * q.val] S1x32x128.size (inb q), w q⟩ : View.Piece Val S1x256x4096 e)) ?_ (ix3 0 r j) ?_
    · refine key.trans ?_
      exact dif_pos hr
    · intro p hp x
      obtain ⟨q, _, rfl⟩ := List.mem_map.mp hp
      have ha : a + 32 ≤ 256 := inb q 1
      obtain ⟨o, i, l, rfl⟩ : ∃ (o : Fin 1) (i : Fin 32) (l : Fin 128), x = (ix3 o i l : S1x32x128.Idx) := ⟨x 0, x 1, x 2, eq_ix3 x⟩
      obtain rfl : o = 0 := Subsingleton.elim _ _
      have he : (Rect.unit (s := S1x256x4096) ![0, a, 128 * q.val] S1x32x128.size (inb q)).emb (ix3 0 i l) = ix3 (0 : Fin 1) (⟨a + i.val, by omega⟩ : Fin 256) (col q l) := by
        funext b
        match b with
        | ⟨0, _⟩ => exact Fin.ext ((ValueKit.rect_emb_unit_val ..).trans (rfl))
        | ⟨1, _⟩ => exact Fin.ext (ValueKit.rect_emb_unit_val ..)
        | ⟨2, _⟩ => exact Fin.ext (ValueKit.rect_emb_unit_val ..)
      dsimp only
      rw [he]
      refine Eq.symm ((dif_pos (show a ≤ a + i.val ∧ a + i.val < a + 32 by omega)).trans ?_)
      show w (tile (col q l)) (ix3 0 ⟨a + i.val - a, _⟩ (lane (col q l))) = w q (ix3 0 i l)
      rw [tile_col, lane_col]
      congr 1
      funext b
      match b with
      | ⟨0, _⟩ => rfl
      | ⟨1, _⟩ => exact Fin.ext (Nat.add_sub_cancel_left ..)
      | ⟨2, _⟩ => rfl
    · refine ⟨_, List.mem_map.mpr ⟨tile j, mem_cols _, rfl⟩, ?_⟩
      rw [Rect.mem_set_unit]
      intro b
      match b with
      | ⟨0, _⟩ => exact ⟨Nat.le_refl 0, Nat.zero_lt_one⟩
      | ⟨1, _⟩ => exact ⟨hr.1, hr.2⟩
      | ⟨2, _⟩ => exact ⟨by show 128 * (j.val / 128) ≤ j.val; omega, by show j.val < 128 * (j.val / 128) + 128; omega⟩
  · rw [dif_neg hr]
    refine v.read_writes_apply_of_forall_not_mem f (ix3 0 r j) _ fun p hp hm => ?_
    obtain ⟨q, _, rfl⟩ := List.mem_map.mp hp
    rw [Rect.mem_set_unit] at hm
    exact hr (hm 1)

/-- After one band of an array with one lane tile is stored. -/
theorem band_read (v : View sig .tc .vmem S256x128 e) (f : v.ty.Contents Val) {off : Fin 2 → ℕ} {a : ℕ}
    (h : off = ![a, 0]) (inb : ∀ b, off b + S32x128.size b ≤ S256x128.size b)
    (w : S32x128.Idx → Val e) (r : Fin 256) (l : Fin 128) :
    v.read Val (v.writes Val f [(⟨Rect.unit (s := S256x128) off S32x128.size inb, w⟩ : View.Piece Val S256x128 e)]) (ix2 r l)
      = if hr : a ≤ r.val ∧ r.val < a + 32 then w (ix2 ⟨r.val - a, by omega⟩ l) else v.read Val f (ix2 r l) := by
  subst h
  by_cases hr : a ≤ r.val ∧ r.val < a + 32
  · rw [dif_pos hr]
    have he : (Rect.unit (s := S256x128) ![a, 0] S32x128.size inb).emb (ix2 (⟨r.val - a, by omega⟩ : Fin 32) l) = (ix2 r l : S256x128.Idx) := by
      funext b
      match b with
      | ⟨0, _⟩ => exact Fin.ext ((ValueKit.rect_emb_unit_val ..).trans (by show a + (r.val - a) = r.val; omega))
      | ⟨1, _⟩ => exact Fin.ext ((ValueKit.rect_emb_unit_val ..).trans (Nat.zero_add _))
    rw [← he]
    exact View.read_writes_cons_emb ..
  · rw [dif_neg hr]
    refine v.read_writes_apply_of_forall_not_mem f (ix2 r l) _ fun p hp hm => ?_
    obtain rfl := List.mem_singleton.mp hp
    rw [Rect.mem_set_unit] at hm
    exact hr (hm 0)

/-- After the 32 tiles of the accumulator rows are stored. -/
theorem atiles_read (v : View sig .tc .vmem S8x4096 e) (f : v.ty.Contents Val)
    (w : Fin 32 → S8x128.Idx → Val e) (i : Fin 8) (j : Fin 4096) :
    v.read Val (v.writes Val f (cols.map fun q => (⟨arect q, w q⟩ : View.Piece Val S8x4096 e))) (ix2 i j)
      = w (tile j) (ix2 i (lane j)) := by
  refine v.read_writes_apply_of_pieces f (Val := Val) (fun y : S8x4096.Idx => w (tile (y 1)) (ix2 (y 0) (lane (y 1))))
    (cols.map fun q => (⟨arect q, w q⟩ : View.Piece Val S8x4096 e)) ?_ (ix2 i j) ?_
  · intro p hp x
    obtain ⟨q, _, rfl⟩ := List.mem_map.mp hp
    obtain ⟨i, l, rfl⟩ : ∃ (i : Fin 8) (l : Fin 128), x = (ix2 i l : S8x128.Idx) := ⟨x 0, x 1, eq_ix2 x⟩
    have he : (arect q).emb (ix2 i l) = ix2 i (col q l) := by
      funext b
      match b with
      | ⟨0, _⟩ => exact Fin.ext ((ValueKit.rect_emb_unit_val ..).trans (Nat.zero_add _))
      | ⟨1, _⟩ => exact Fin.ext (ValueKit.rect_emb_unit_val ..)
    dsimp only
    rw [he]
    show w q (ix2 i l) = w (tile (col q l)) (ix2 i (lane (col q l)))
    rw [tile_col, lane_col]
  · refine ⟨_, List.mem_map.mpr ⟨tile j, mem_cols _, rfl⟩, ?_⟩
    rw [Rect.mem_set_unit]
    intro b
    match b with
    | ⟨0, _⟩ => exact ⟨Nat.zero_le _, by show i.val < 0 + 8; omega⟩
    | ⟨1, _⟩ => exact ⟨by show 128 * (j.val / 128) ≤ j.val; omega, by show j.val < 128 * (j.val / 128) + 128; omega⟩

end

end Cert.KernelIdeal.Gen
-- ==== Proof.LoopValues.lean ====
module

public import proofs.«01_k».proof.Proof.Bands

@[expose] public section

set_option maxRecDepth 8192

/-! What each of the three row loops leaves in the arrays it writes, over the extended reals, by induction
on the trips: a trip's band is its payload's value, the rows of the trips to come are untouched. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The magnitude. -/
def mag (x : EReal) : EReal := max x (-x)

theorem foldr_apply {s : Shape} (f : Fin 32 → FVec Ideal s .f32 → FVec Ideal s .f32) (f' : Fin 32 → EReal → EReal) (x : s.Idx)
    (h : ∀ q a, f q a x = f' q (a x)) (init : FVec Ideal s .f32) : ∀ L : List (Fin 32), L.foldr f init x = L.foldr f' (init x)
  | [] => rfl
  | q :: L => by rw [List.foldr_cons, List.foldr_cons, h, foldr_apply f f' x h init L]

/-- The largest magnitude along one lane of a row. -/
def laneTop (u : Fin 4096 → EReal) (l : Fin 128) : EReal := cols.foldr (fun q a => max a (mag (u (col q l)))) 0

/-- The sum along one lane of a row. -/
def laneSum (p : Fin 4096 → EReal) (l : Fin 128) : EReal := cols.foldr (fun q a => a + p (col q l)) 0

theorem trips1 : k0_t1_loop.trips = 8 := rfl
theorem trips2 : k0_t2_loop.trips = 8 := rfl
theorem trips3 : k0_t3_loop.trips = 8 := rfl

section
variable (𝒱 : Variants) (c : Dev nD) (bd : Option 𝒱.V) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole) (v20 : IVec S8x128 1) (v36 : BitVec 32)

/-- The second loop after `n` trips: the rows below `32 n` hold `u = g - xhat * c` and the lanes' largest magnitudes. -/
theorem loop2 (X9 : BufTy.Contents (Elt Ideal) arg9.view.ty) (G10 : BufTy.Contents (Elt Ideal) arg10.view.ty)
    (G12 : BufTy.Contents (Elt Ideal) arg12.view.ty) (xh g : Fin 256 → Fin 4096 → EReal) (cf : Fin 256 → Fin 128 → EReal)
    (h9 : ∀ r j, arg9.view.read (Elt Ideal) X9 (ix2 r j) = xh r j) (h10 : ∀ r j, arg10.view.read (Elt Ideal) G10 (ix2 r j) = g r j)
    (h12 : ∀ r l, arg12.view.read (Elt Ideal) G12 (ix2 r l) = cf r l) : ∀ n : ℕ, n ≤ 8 →
      (∀ r j, arg10.view.read (Elt Ideal) (arg10.view.writes (Elt Ideal) G10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v20 v36 X9 G10 G12 n).1) (ix2 r j)
        = if r.val < 32 * n then g r j - xh r j * cf r (lane j) else g r j) ∧
      (∀ r l, arg12.view.read (Elt Ideal) (arg12.view.writes (Elt Ideal) G12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v20 v36 X9 G10 G12 n).2) (ix2 r l)
        = if r.val < 32 * n then laneTop (fun j => g r j - xh r j * cf r (lane j)) l else cf r l)
  | 0, _ => ⟨fun r j => (h10 r j).trans (if_neg (by omega)).symm, fun r l => (h12 r l).trans (if_neg (by omega)).symm⟩
  | n + 1, hn => by
    obtain ⟨ih10, ih12⟩ := loop2 X9 G10 G12 xh g cf h9 h10 h12 n (by omega)
    obtain ⟨k, rfl⟩ : ∃ k : Fin k0_t2_loop.trips, k.val = n := ⟨⟨n, hn⟩, rfl⟩
    rw [pb_k0_t2_succ]
    dsimp only
    rw [View.writes_append, View.writes_append, trip2_u, trip2_top]
    generalize arg10.view.writes (Elt Ideal) G10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v20 v36 X9 G10 G12 k.val).1 = f10 at ih10 ⊢
    generalize arg12.view.writes (Elt Ideal) G12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v20 v36 X9 G10 G12 k.val).2 = f12 at ih12 ⊢
    have hu : ∀ (r : Fin 256) (q : Fin 32) (l : Fin 128) (hr : 32 * k.val ≤ r.val ∧ r.val < 32 * k.val + 32),
        k0_pay238 (F := Ideal) (arg12.view.readAt (Elt Ideal) (band2 k).toLoadRect f12)
          (arg10.view.readAt (Elt Ideal) (rect2 k q).toLoadRect f10) (arg9.view.readAt (Elt Ideal) (rect2 k q).toLoadRect X9)
          (ix2 ⟨r.val - 32 * k.val, by omega⟩ l) = g r (col q l) - xh r (col q l) * cf r l := by
      intro r q l hr
      pointwise [k0_pay238]
      rw [tile_ld _ _ (off2_eq k q) _ _ l r (by show 32 * k.val + (r.val - 32 * k.val) = r.val; omega),
        tile_ld _ _ (off2_eq k q) _ _ l r (by show 32 * k.val + (r.val - 32 * k.val) = r.val; omega),
        band_ld _ _ (k0_off67_eq k) _ _ l r (by show 32 * k.val + (r.val - 32 * k.val) = r.val; omega), ih10, ih12, h9,
        if_neg (by omega), if_neg (by omega)]
    constructor
    · intro r j
      rw [tiles_read _ _ (off2_eq k) (off2_inb k)]
      by_cases hr : 32 * k.val ≤ r.val ∧ r.val < 32 * k.val + 32
      · rw [dif_pos hr, if_pos (by omega)]
        unfold k0_pay239
        rw [shapeCast_self, hu r (tile j) (lane j) hr, col_tile_lane]
      · rw [dif_neg hr, ih10]
        by_cases h' : r.val < 32 * k.val
        · rw [if_pos h', if_pos (by omega)]
        · rw [if_neg h', if_neg (by omega)]
    · intro r l
      rw [band_read _ _ (k0_off67_eq k)]
      by_cases hr : 32 * k.val ≤ r.val ∧ r.val < 32 * k.val + 32
      · rw [dif_pos hr, if_pos (by omega), shapeCast_self]
        rw [foldr_apply _ (fun q a => max a (mag (g r (col q l) - xh r (col q l) * cf r l))) _ fun q a =>
          congrArg (fun y => max (a _) (mag y)) (hu r q l hr)]
        unfold laneTop
        simp only [lane_col]
        congr 1
        show Ideal.ofBits .f32 0x00000000#32 = 0
        simp
      · rw [dif_neg hr, ih12]
        by_cases h' : r.val < 32 * k.val
        · rw [if_pos h', if_pos (by omega)]
        · rw [if_neg h', if_neg (by omega)]

/-- Row `ρ` of a product array, with 0 past the last row. -/
def rowOr (p : Fin 256 → Fin 4096 → EReal) (ρ : ℕ) (j : Fin 4096) : EReal := if h : ρ < 256 then p ⟨ρ, h⟩ j else 0

/-- What the first `n` trips add to accumulator row `i`: the rows `32 k + 8 m + i`. -/
def bandSums (p : Fin 256 → Fin 4096 → EReal) (n : ℕ) (i : Fin 8) (j : Fin 4096) : EReal :=
  ∑ k ∈ Finset.range n, ∑ m : Fin 4, rowOr p (32 * k + (8 * m.val + i.val)) j

section
variable {X2 : BufTy.Contents (Elt Ideal) arg2.view.ty} {X3 : BufTy.Contents (Elt Ideal) arg3.view.ty}
    {X4 : BufTy.Contents (Elt Ideal) arg4.view.ty} {X11 : BufTy.Contents (Elt Ideal) arg11.view.ty}
    {x dy : Fin 256 → Fin 4096 → EReal} {gam : Fin 4096 → EReal} {rr : Fin 256 → Fin 128 → EReal}

theorem in_band {k : ℕ} {r : Fin 256} (hr : 32 * k ≤ r.val ∧ r.val < 32 * k + 32) :
    32 * k + (⟨r.val - 32 * k, by omega⟩ : Fin 32).val = r.val := by
  show 32 * k + (r.val - 32 * k) = r.val
  omega

theorem xhat_at (h2 : ∀ r j, arg2.view.read (Elt Ideal) X2 (ix3 0 r j) = x r j)
    (h11 : ∀ r l, arg11.view.read (Elt Ideal) X11 (ix2 r l) = rr r l) (k : Fin k0_t1_loop.trips) (o : Fin 32) (r : Fin 256)
    (q : Fin 32) (l : Fin 128) (hr : 32 * k.val + o.val = r.val) :
    k0_pay6 (F := Ideal) (arg11.view.readAt (Elt Ideal) (band1 k).toLoadRect X11)
      (arg2.view.readAt (Elt Ideal) (brect1 k q).toLoadRect X2) (ix2 o l) = x r (col q l) * rr r l := by
  pointwise [k0_pay6]
  rw [btile_ld _ _ (boff1_eq k q) _ o l r hr, band_ld _ _ (k0_off2_eq k) _ o l r hr, h2, h11]

theorem dy_at (h3 : ∀ r j, arg3.view.read (Elt Ideal) X3 (ix3 0 r j) = dy r j) (k : Fin k0_t1_loop.trips) (o : Fin 32) (r : Fin 256)
    (q : Fin 32) (l : Fin 128) (hr : 32 * k.val + o.val = r.val) :
    k0_pay7 (F := Ideal) (arg3.view.readAt (Elt Ideal) (brect1 k q).toLoadRect X3) (ix2 o l) = dy r (col q l) := by
  pointwise [k0_pay7]
  rw [btile_ld _ _ (boff1_eq k q) _ o l r hr, h3]

theorem g_at (h3 : ∀ r j, arg3.view.read (Elt Ideal) X3 (ix3 0 r j) = dy r j)
    (h4 : ∀ j, arg4.view.read (Elt Ideal) X4 (ix2 0 j) = gam j) (k : Fin k0_t1_loop.trips) (o : Fin 32) (r : Fin 256)
    (q : Fin 32) (l : Fin 128) (hr : 32 * k.val + o.val = r.val) :
    k0_pay8 (F := Ideal) (arg3.view.readAt (Elt Ideal) (brect1 k q).toLoadRect X3)
      (arg4.view.readAt (Elt Ideal) (grect q).toLoadRect X4) (ix2 o l) = dy r (col q l) * gam (col q l) := by
  pointwise [k0_pay8]
  rw [dy_at arg3 h3 k o r q l hr, gtile_ld, h4]

variable (k : Fin k0_t1_loop.trips)
  (f9 : BufTy.Contents (Elt Ideal) arg9.view.ty) (f10 : BufTy.Contents (Elt Ideal) arg10.view.ty)
  (f12 : BufTy.Contents (Elt Ideal) arg12.view.ty) (f13 : BufTy.Contents (Elt Ideal) arg13.view.ty)
  (g9 : BufTy.Contents (Elt Ideal) arg9.view.ty) (g10 : BufTy.Contents (Elt Ideal) arg10.view.ty)
  (g12 : BufTy.Contents (Elt Ideal) arg12.view.ty) (g13 : BufTy.Contents (Elt Ideal) arg13.view.ty)

theorem step1_xhat (h2 : ∀ r j, arg2.view.read (Elt Ideal) X2 (ix3 0 r j) = x r j)
    (h11 : ∀ r l, arg11.view.read (Elt Ideal) X11 (ix2 r l) = rr r l)
    (ih : ∀ r j, r.val < 32 * k.val → arg9.view.read (Elt Ideal) g9 (ix2 r j) = x r j * rr r (lane j))
    (r : Fin 256) (j : Fin 4096) (hr : r.val < 32 * (k.val + 1)) :
    arg9.view.read (Elt Ideal) (arg9.view.writes (Elt Ideal) g9 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).1 f9 f10 f12 f13)) (ix2 r j) = x r j * rr r (lane j) := by
  rw [trip1_xhat, tiles_read _ _ (off1_eq k) (off1_inb k)]
  by_cases hb : 32 * k.val ≤ r.val ∧ r.val < 32 * k.val + 32
  · rw [dif_pos hb]
    unfold k0_pay9
    rw [shapeCast_self, xhat_at arg2 arg11 h2 h11 k _ r (tile j) (lane j) (in_band hb), col_tile_lane]
  · rw [dif_neg hb, ih r j (by omega)]

theorem step1_g (h3 : ∀ r j, arg3.view.read (Elt Ideal) X3 (ix3 0 r j) = dy r j)
    (h4 : ∀ j, arg4.view.read (Elt Ideal) X4 (ix2 0 j) = gam j)
    (ih : ∀ r j, r.val < 32 * k.val → arg10.view.read (Elt Ideal) g10 (ix2 r j) = dy r j * gam j)
    (r : Fin 256) (j : Fin 4096) (hr : r.val < 32 * (k.val + 1)) :
    arg10.view.read (Elt Ideal) (arg10.view.writes (Elt Ideal) g10 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.1 f9 f10 f12 f13)) (ix2 r j) = dy r j * gam j := by
  rw [trip1_g, tiles_read _ _ (off1_eq k) (off1_inb k)]
  by_cases hb : 32 * k.val ≤ r.val ∧ r.val < 32 * k.val + 32
  · rw [dif_pos hb]
    unfold k0_pay10
    rw [shapeCast_self, g_at arg3 arg4 h3 h4 k _ r (tile j) (lane j) (in_band hb), col_tile_lane]
  · rw [dif_neg hb, ih r j (by omega)]

theorem step1_part (h2 : ∀ r j, arg2.view.read (Elt Ideal) X2 (ix3 0 r j) = x r j)
    (h3 : ∀ r j, arg3.view.read (Elt Ideal) X3 (ix3 0 r j) = dy r j)
    (h4 : ∀ j, arg4.view.read (Elt Ideal) X4 (ix2 0 j) = gam j)
    (h11 : ∀ r l, arg11.view.read (Elt Ideal) X11 (ix2 r l) = rr r l)
    (ih : ∀ r l, r.val < 32 * k.val → arg12.view.read (Elt Ideal) g12 (ix2 r l)
      = laneSum (fun j => dy r j * gam j * (x r j * rr r (lane j))) l)
    (r : Fin 256) (l : Fin 128) (hr : r.val < 32 * (k.val + 1)) :
    arg12.view.read (Elt Ideal) (arg12.view.writes (Elt Ideal) g12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.2.1 f9 f10 f12 f13)) (ix2 r l)
      = laneSum (fun j => dy r j * gam j * (x r j * rr r (lane j))) l := by
  rw [trip1_part, band_read _ _ (k0_off2_eq k)]
  by_cases hb : 32 * k.val ≤ r.val ∧ r.val < 32 * k.val + 32
  · rw [dif_pos hb, shapeCast_self]
    rw [foldr_apply _ (fun q a => a + dy r (col q l) * gam (col q l) * (x r (col q l) * rr r l)) _ fun q a =>
      congrArg₂ (fun y z => (a _ : EReal) + y * z) (g_at arg3 arg4 h3 h4 k _ r q l (in_band hb)) (xhat_at arg2 arg11 h2 h11 k _ r q l (in_band hb))]
    unfold laneSum
    simp only [lane_col]
    congr 1
    show Ideal.ofBits .f32 0x00000000#32 = 0
    simp
  · rw [dif_neg hb, ih r l (by omega)]

theorem step1_acc (h2 : ∀ r j, arg2.view.read (Elt Ideal) X2 (ix3 0 r j) = x r j)
    (h3 : ∀ r j, arg3.view.read (Elt Ideal) X3 (ix3 0 r j) = dy r j)
    (h11 : ∀ r l, arg11.view.read (Elt Ideal) X11 (ix2 r l) = rr r l) (a : EReal) (e : Fin 8) (j : Fin 4096)
    (ih : arg13.view.read (Elt Ideal) f13 (ix2 e j) = a) :
    arg13.view.read (Elt Ideal) (arg13.view.writes (Elt Ideal) g13 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 k).2.2.2.1 f9 f10 f12 f13)) (ix2 e j)
      = a + ∑ m : Fin 4, rowOr (fun r j => dy r j * (x r j * rr r (lane j))) (32 * k.val + (8 * m.val + e.val)) j := by
  have hk : k.val < 8 := k.isLt
  rw [trip1_acc, atiles_read]
  pointwise [k0_pay12]
  rw [atile_ld, col_tile_lane, ih]
  congr 1
  refine Finset.sum_congr rfl fun m _ => ?_
  have hm : 32 * k.val + (8 * m.val + e.val) < 256 := by omega
  have ho : m.val * 8 + e.val < 32 := by omega
  have hor : 32 * k.val + (⟨m.val * 8 + e.val, ho⟩ : Fin 32).val = (⟨_, hm⟩ : Fin 256).val := by
    show 32 * k.val + (m.val * 8 + e.val) = 32 * k.val + (8 * m.val + e.val)
    omega
  rw [dy_at arg3 h3 k ⟨_, ho⟩ ⟨_, hm⟩ (tile j) (lane j) hor, xhat_at arg2 arg11 h2 h11 k ⟨_, ho⟩ ⟨_, hm⟩ (tile j) (lane j) hor, col_tile_lane]
  unfold rowOr
  rw [dif_pos hm]
end

set_option maxHeartbeats 1000000 in
/-- The first loop after `n` trips. -/
theorem loop1 (X2 : BufTy.Contents (Elt Ideal) arg2.view.ty) (X3 : BufTy.Contents (Elt Ideal) arg3.view.ty)
    (X4 : BufTy.Contents (Elt Ideal) arg4.view.ty) (X11 : BufTy.Contents (Elt Ideal) arg11.view.ty)
    (G9 : BufTy.Contents (Elt Ideal) arg9.view.ty) (G10 : BufTy.Contents (Elt Ideal) arg10.view.ty)
    (G12 : BufTy.Contents (Elt Ideal) arg12.view.ty) (G13 : BufTy.Contents (Elt Ideal) arg13.view.ty)
    (x dy : Fin 256 → Fin 4096 → EReal) (gam : Fin 4096 → EReal) (rr : Fin 256 → Fin 128 → EReal) (a0 : Fin 8 → Fin 4096 → EReal)
    (h2 : ∀ r j, arg2.view.read (Elt Ideal) X2 (ix3 0 r j) = x r j) (h3 : ∀ r j, arg3.view.read (Elt Ideal) X3 (ix3 0 r j) = dy r j)
    (h4 : ∀ j, arg4.view.read (Elt Ideal) X4 (ix2 0 j) = gam j) (h11 : ∀ r l, arg11.view.read (Elt Ideal) X11 (ix2 r l) = rr r l)
    (h13 : ∀ e j, arg13.view.read (Elt Ideal) G13 (ix2 e j) = a0 e j) : ∀ n : ℕ, n ≤ 8 →
      (∀ r j, r.val < 32 * n → arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 n).1) (ix2 r j)
        = x r j * rr r (lane j)) ∧
      (∀ r j, r.val < 32 * n → arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 n).2.1) (ix2 r j)
        = dy r j * gam j) ∧
      (∀ r l, r.val < 32 * n → arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 n).2.2.1) (ix2 r l)
        = laneSum (fun j => dy r j * gam j * (x r j * rr r (lane j))) l) ∧
      (∀ e j, arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 n).2.2.2) (ix2 e j)
        = a0 e j + bandSums (fun r j => dy r j * (x r j * rr r (lane j))) n e j) := by
  intro n
  induction n with
  | zero =>
    intro _
    exact ⟨fun r j h => absurd h (by omega), fun r j h => absurd h (by omega), fun r l h => absurd h (by omega),
      fun e j => (h13 e j).trans (by simp [bandSums])⟩
  | succ n ih =>
    intro hn
    obtain ⟨ih9, ih10, ih12, ih13⟩ := ih (by omega)
    obtain ⟨k, rfl⟩ : ∃ k : Fin k0_t1_loop.trips, k.val = n := ⟨⟨n, hn⟩, rfl⟩
    rw [pb_k0_t1_succ]
    dsimp only
    rw [View.writes_append, View.writes_append, View.writes_append, View.writes_append]
    obtain ⟨f9, hf9⟩ : ∃ f, f = arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 k.val).1 := ⟨_, rfl⟩
    rw [← hf9] at ih9
    obtain ⟨f10, hf10⟩ : ∃ f, f = arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 k.val).2.1 := ⟨_, rfl⟩
    rw [← hf10] at ih10
    obtain ⟨f12, hf12⟩ : ∃ f, f = arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 k.val).2.2.1 := ⟨_, rfl⟩
    rw [← hf12] at ih12
    obtain ⟨f13, hf13⟩ : ∃ f, f = arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 v20 v36 X2 X3 X4 X11 G9 G10 G12 G13 k.val).2.2.2 := ⟨_, rfl⟩
    rw [← hf13] at ih13
    rw [← hf9, ← hf10, ← hf12, ← hf13]
    clear hf9 hf10 hf12 hf13
    refine ⟨fun r j hr => step1_xhat 𝒱 c bd i arg2 harg2 arg3 harg3 arg4 harg4 arg5 harg5 arg6 harg6 arg7 harg7 arg8 harg8 arg9 harg9 arg10 harg10 arg11 harg11 arg12 harg12 arg13 harg13 v20 v36 k _ _ _ _ _ h2 h11 ih9 r j hr, fun r j hr => step1_g 𝒱 c bd i arg2 harg2 arg3 harg3 arg4 harg4 arg5 harg5 arg6 harg6 arg7 harg7 arg8 harg8 arg9 harg9 arg10 harg10 arg11 harg11 arg12 harg12 arg13 harg13 v20 v36 k _ _ _ _ _ h3 h4 ih10 r j hr,
      fun r l hr => step1_part 𝒱 c bd i arg2 harg2 arg3 harg3 arg4 harg4 arg5 harg5 arg6 harg6 arg7 harg7 arg8 harg8 arg9 harg9 arg10 harg10 arg11 harg11 arg12 harg12 arg13 harg13 v20 v36 k _ _ _ _ _ h2 h3 h4 h11 ih12 r l hr, fun e j => ?_⟩
    refine (step1_acc 𝒱 c bd i arg2 harg2 arg3 harg3 arg4 harg4 arg5 harg5 arg6 harg6 arg7 harg7 arg8 harg8 arg9 harg9 arg10 harg10 arg11 harg11 arg12 harg12 arg13 harg13 v20 v36 k _ _ _ _ _ h2 h3 h11 _ e j (ih13 e j)).trans ?_
    unfold bandSums
    rw [Finset.sum_range_succ, ← add_assoc]

/-- The third loop after `n` trips: the rows below `32 n` hold the codes. -/
theorem loop3 (X10 : BufTy.Contents (Elt Ideal) arg10.view.ty) (X12 : BufTy.Contents (Elt Ideal) arg12.view.ty)
    (G7 : BufTy.Contents (Elt Ideal) arg7.view.ty) (u : Fin 256 → Fin 4096 → EReal) (kf : Fin 256 → Fin 128 → EReal)
    (h10 : ∀ r j, arg10.view.read (Elt Ideal) X10 (ix2 r j) = u r j)
    (h12 : ∀ r l, arg12.view.read (Elt Ideal) X12 (ix2 r l) = kf r l) : ∀ n : ℕ, n ≤ 8 →
      (∀ r j, r.val < 32 * n → arg7.view.read (Elt Ideal) (arg7.view.writes (Elt Ideal) G7 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 X10 X12 n)) (ix3 0 r j)
        = min (max (u r j * kf r (lane j)) (Ideal.ofBits .f32 0xC7600000#32)) (Ideal.ofBits .f32 0x47600000#32))
  | 0, _ => fun r j h => absurd h (by omega)
  | n + 1, hn => by
    have ih := loop3 X10 X12 G7 u kf h10 h12 n (by omega)
    obtain ⟨k, rfl⟩ : ∃ k : Fin k0_t3_loop.trips, k.val = n := ⟨⟨n, hn⟩, rfl⟩
    rw [pb_k0_t3_succ, View.writes_append]
    unfold tripL_k0_t3
    rw [trip3_codes]
    generalize arg7.view.writes (Elt Ideal) G7 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 X10 X12 k.val) = f7 at ih ⊢
    intro r j hr
    rw [btiles_read _ _ (boff3_eq k) (boff3_inb k)]
    by_cases hb : 32 * k.val ≤ r.val ∧ r.val < 32 * k.val + 32
    · have ho : 32 * k.val + (⟨r.val - 32 * k.val, by omega⟩ : Fin 32).val = r.val := by
        show 32 * k.val + (r.val - 32 * k.val) = r.val; omega
      rw [dif_pos hb]
      pointwise [k0_pay340]
      rw [tile_ld _ _ (off3_eq k _) _ _ _ r ho, band_ld _ _ (k0_off100_eq k) _ _ _ r ho, h10, h12, col_tile_lane]
    · rw [dif_neg hb, ih r j (by omega)]

end

end Cert.KernelIdeal.Gen
-- ==== Proof.Payloads.lean ====
module

public import proofs.«01_k».proof.Proof.Powers
public import proofs.«01_k».proof.Proof.LoopValues
@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Powers

/-! What each payload outside the loops is at an index, over the extended reals. -/

/-- A grid point's row of the `rstd` block: its batch entry modulo 8. -/
def rowOf (i : grid0.Coords) : Fin 8 := ⟨(i 0).val % 8, by omega⟩

section
variable (i : grid0.Coords)

theorem pay343_at (j : Fin 8) (l : Fin 4096) : k0_pay343 (F := Ideal) (ix2 j l) = 0 := by
  pointwise [k0_pay343]

theorem row_word : ∀ (b : Fin 57) (r : Fin 8),
    (IntOp.cmpi .eq (BitVec.ofNat 32 r.val)
      (Scalar.select (Scalar.andi (Scalar.xori (Scalar.cmpi .slt (Scalar.remsi (BitVec.ofNat 32 b.val) (Scalar.select (Scalar.cmpi .eq 8#32 0#32) 1#32 8#32)) 0#32)
          (Scalar.cmpi .slt (Scalar.select (Scalar.cmpi .eq 8#32 0#32) 1#32 8#32) 0#32))
          (Scalar.cmpi .ne (Scalar.remsi (BitVec.ofNat 32 b.val) (Scalar.select (Scalar.cmpi .eq 8#32 0#32) 1#32 8#32)) 0#32))
        (Scalar.addi (Scalar.remsi (BitVec.ofNat 32 b.val) (Scalar.select (Scalar.cmpi .eq 8#32 0#32) 1#32 8#32)) (Scalar.select (Scalar.cmpi .eq 8#32 0#32) 1#32 8#32))
        (Scalar.remsi (BitVec.ofNat 32 b.val) (Scalar.select (Scalar.cmpi .eq 8#32 0#32) 1#32 8#32))))
      = BitVec.ofBool (decide (r.val = b.val % 8)) := by decide

theorem pay344_at (r : Fin 8) (l : Fin 128) : k0_pay344 i (ix2 r l) = BitVec.ofBool (decide (r = rowOf i)) := by
  refine Eq.trans ?_ ((row_word (i 0) r).trans (congrArg BitVec.ofBool (decide_eq_decide.mpr ⟨fun h => Fin.ext h, fun h => congrArg Fin.val h⟩)))
  pointwise [k0_pay344]

theorem sum_row (v : Fin 8 → EReal) :
    (∑ x : Fin 8, Scalar.select (BitVec.ofBool (decide (x = rowOf i))) (v x) 0) = v (rowOf i) := by
  have : ∀ x : Fin 8, Scalar.select (BitVec.ofBool (decide (x = rowOf i))) (v x) 0 = if x = rowOf i then v x else 0 := by
    intro x
    unfold Scalar.select
    by_cases h : x = rowOf i <;> simp [h]
  simp only [this]
  rw [Finset.sum_ite_eq' Finset.univ (rowOf i) v, if_pos (Finset.mem_univ _)]

theorem pay345_at (v : Vec Ideal S8x128 .f32) (r l : Fin 128) : k0_pay345 (F := Ideal) i v (ix2 r l) = v (ix2 (rowOf i) r) := by
  rw [← sum_row i fun x => v (ix2 x r)]
  pointwise [k0_pay345]
  refine Finset.sum_congr rfl fun x _ => ?_
  rw [pay344_at]
  unfold Scalar.select
  by_cases h : x = rowOf i <;> simp [h]

theorem pay346_at (v : Vec Ideal S8x128 .f32) (r l : Fin 128) : k0_pay346 (F := Ideal) (k0_pay344 i) v (ix2 r l) = v (ix2 (rowOf i) r) := by
  rw [← sum_row i fun x => v (ix2 x r)]
  pointwise [k0_pay346]
  refine Finset.sum_congr rfl fun x _ => ?_
  rw [pay344_at]
  unfold Scalar.select
  by_cases h : x = rowOf i <;> simp [h]

theorem pay349_at (v : Vec Ideal S256x128 .f32) (r : Fin 256) (l : Fin 128) :
    k0_pay349 (F := Ideal) v (ix2 r l) = (∑ x : Fin 128, v (ix2 r x)) * Ideal.ofBits .f32 0x39800000#32 := by
  pointwise [k0_pay349]

/-- The largest of a row's lanes. -/
def rowTop (v : Fin 128 → EReal) : EReal := Finset.fold max (Ideal.ofBits .f32 0xFF800000#32) v Finset.univ

theorem pay357_at (v : Vec Ideal S256x128 .f32) (r : Fin 256) (l : Fin 1) :
    k0_pay357 (F := Ideal) v (ix2 r l) = rowTop fun x => v (ix2 r x) := by
  unfold rowTop
  pointwise [k0_pay357]

theorem pay358_at (v : Vec Ideal S256x128 .f32) (r : Fin 256) (l : Fin 128) :
    k0_pay358 (F := Ideal) v (ix2 r l) = mag (v (ix2 r l)) := rfl

theorem pay359_at (v : FVec Ideal S256x1 .f32) (w : FVec Ideal S256x128 .f32) (r : Fin 256) (l : Fin 128) :
    k0_pay359 (F := Ideal) v w (ix2 r l) = v (ix2 r 0) * w (ix2 r l) * Ideal.ofBits .f32 0x37924925#32 := by
  pointwise [k0_pay359]

/-- One step of the search on arrays of words. -/
def stepV (v : FVec Ideal S256x128 .f32) (f : IVec S256x128 32) (b : BitVec 32) : IVec S256x128 32 :=
  select (cmpf .oge v (bitcastToFloat .f32 (shli (addi f (broadcast S256x128 b)) (broadcast S256x128 23#32)))) (addi f (broadcast S256x128 b)) f

theorem stepV_at (v : FVec Ideal S256x128 .f32) (f : IVec S256x128 32) (b : BitVec 32) (x : S256x128.Idx) :
    stepV v f b x = stepB (v x) (f x) b := rfl

theorem pay360_eq (v : FVec Ideal S256x1 .f32) (w : FVec Ideal S256x128 .f32) :
    k0_pay360 (F := Ideal) v w = stepV (k0_pay359 v w) (stepV (k0_pay359 v w) (stepV (k0_pay359 v w)
      (stepV (k0_pay359 v w) (broadcast S256x128 0#32) 128#32) 64#32) 32#32) 16#32 := rfl

theorem pay360_at (v : FVec Ideal S256x1 .f32) (w : FVec Ideal S256x128 .f32) (x : S256x128.Idx) :
    k0_pay360 (F := Ideal) v w x
      = stepB (k0_pay359 (F := Ideal) v w x) (stepB (k0_pay359 (F := Ideal) v w x) (stepB (k0_pay359 (F := Ideal) v w x)
          (stepB (k0_pay359 (F := Ideal) v w x) 0#32 128#32) 64#32) 32#32) 16#32 := by
  rw [pay360_eq, stepV_at, stepV_at, stepV_at, stepV_at]
  rfl

theorem pay363_at (v : FVec Ideal S256x128 .f32) (f : IVec S256x128 32) (x : S256x128.Idx) :
    k0_pay363 (F := Ideal) v f (fun x => IntOp.addi (f x) 8#32) (fun _ => 23#32) x
      = expB (stepB (v x) (stepB (v x) (stepB (v x) (stepB (v x) (f x) 8#32) 4#32) 2#32) 1#32) := rfl

/-- The exponent words of the kernel: of the product of the row's largest magnitude and `|r|`, times the constant. -/
theorem exponent_at (v : FVec Ideal S256x1 .f32) (w : FVec Ideal S256x128 .f32) (r : Fin 256) (l : Fin 128) :
    k0_pay363 (F := Ideal) (k0_pay359 v w) (k0_pay360 v w) (k0_pay361 v w) k0_pay362 (ix2 r l)
      = expB (fieldB (v (ix2 r 0) * w (ix2 r l) * Ideal.ofBits .f32 0x37924925#32)) := by
  refine (pay363_at (k0_pay359 v w) (k0_pay360 v w) (ix2 r l)).trans ?_
  rw [pay360_at, pay359_at]
  rfl

theorem pay364_at (v : FVec Ideal S256x128 .f32) (f g h : IVec S256x128 32) (x : S256x128.Idx) :
    k0_pay364 (F := Ideal) v f g h x = IntOp.subi 0#32 (k0_pay363 (F := Ideal) v f g h x) := rfl

theorem pay365_at (v : FVec Ideal S256x128 .f32) (w : IVec S256x128 32) (r : Fin 256) (l : Fin 128) :
    k0_pay365 (F := Ideal) v w 127#32 (ix2 r l) = v (ix2 r l) * powB (w (ix2 r l)) := by
  unfold powB
  rw [show (0 : EReal) = Ideal.ofBits .f32 0x00000000#32 by simp]
  unfold k0_pay365
  rw [shapeCast_self]
  rfl

theorem pay367_at (w : IVec S256x128 32) (l : Fin 128) :
    k0_pay367 (F := Ideal) w (ix3 0 0 l) = powB (w (ix2 ⟨l.val, by omega⟩ 0)) := by
  unfold powB
  rw [show (0 : EReal) = Ideal.ofBits .f32 0x00000000#32 by simp]
  pointwise [k0_pay367, k0_pay366]
  try rfl

theorem pay368_at (w : IVec S256x128 32) (l : Fin 128) :
    k0_pay1 (k0_pay368 (F := Ideal) w) (ix3 0 0 l) = powB (w (ix2 ⟨128 + l.val, by omega⟩ 0)) := by
  unfold powB
  rw [show (0 : EReal) = Ideal.ofBits .f32 0x00000000#32 by simp]
  pointwise [k0_pay368, k0_pay366, k0_pay1]
  try rfl

theorem pay5_at (v : Vec Ideal S8x4096 .f32) (l : Fin 4096) : k0_pay5 (F := Ideal) v (ix2 0 l) = ∑ x : Fin 8, v (ix2 x l) := by
  pointwise [k0_pay5]

end
end Cert.KernelIdeal.Gen

end
-- ==== Proof.Values.lean ====
module

public import proofs.«01_k».proof.Proof.Payloads
public import Idealize.ShloMosaic.Lib.VecWindow
@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Powers

/-! What the kernel's body computes at a grid point, over the extended reals: each row of its block by itself, from the
row of `x`, the row of `dy`, `gamma` and the row's `rstd`. -/

section
variable (x dy : Fin 256 → Fin 4096 → EReal) (gam : Fin 4096 → EReal) (rv : Fin 256 → EReal)

/-- The mean of `dy * gamma * xhat` along a row, the lanes summed first. -/
def rowMean (r : Fin 256) : EReal := (∑ l : Fin 128, laneSum (fun j => dy r j * gam j * (x r j * rv r)) l) * Ideal.ofBits .f32 0x39800000#32
/-- The gradient before its factor `rstd`. -/
def rowU (r : Fin 256) (j : Fin 4096) : EReal := dy r j * gam j - x r j * rv r * rowMean x dy gam rv r
/-- The row's largest magnitude of it. -/
def rowMax (r : Fin 256) : EReal := rowTop fun l => laneTop (fun j => rowU x dy gam rv r j) l
/-- The word of the row's exponent. -/
def rowExp (r : Fin 256) : BitVec 32 := expB (fieldB (rowMax x dy gam rv r * mag (rv r) * Ideal.ofBits .f32 0x37924925#32))
/-- The row's codes. -/
def rowCode (r : Fin 256) (j : Fin 4096) : EReal :=
  min (max (rowU x dy gam rv r j * (rv r * powB (IntOp.subi 0#32 (rowExp x dy gam rv r)))) (Ideal.ofBits .f32 0xC7600000#32)) (Ideal.ofBits .f32 0x47600000#32)
/-- The row's scale. -/
def rowScale (r : Fin 256) : EReal := powB (rowExp x dy gam rv r)
/-- A column's sum over the block's rows of `dy * xhat`, on top of `a`, one sum for each row modulo 8. -/
def accOf (a : Fin 8 → Fin 4096 → EReal) (e : Fin 8) (j : Fin 4096) : EReal := a e j + bandSums (fun r j => dy r j * (x r j * rv r)) 8 e j
end

/-- The `rstd` of a row of the block. -/
def rvOf (i : grid0.Coords) (x3 : Vec Ideal S8x1024 .f32) (r : Fin 256) : EReal :=
  x3 (ix2 (rowOf i) ⟨256 * (i 1).val + r.val, by have : (i 1).val < 4 := (i 1).isLt; omega⟩)

theorem off1_word0 : ∀ s : Fin 4, (Scalar.indexCast (Scalar.addi (Scalar.muli (BitVec.ofNat 32 s.val) 256#32) 0#32)).toNat = 256 * s.val := by decide
theorem off1_word1 : ∀ s : Fin 4, (Scalar.indexCast (Scalar.addi (Scalar.muli (BitVec.ofNat 32 s.val) 256#32) 128#32)).toNat = 256 * s.val + 128 := by decide
theorem off1_at0 (i : grid0.Coords) : k0_off1 i 0#32 = ![0, 256 * (i 1).val] := congrArg (fun n => ![0, n]) (off1_word0 (i 1))
theorem off1_at1 (i : grid0.Coords) : k0_off1 i 128#32 = ![0, 256 * (i 1).val + 128] := congrArg (fun n => ![0, n]) (off1_word1 (i 1))

/-- A load of 128 columns of the `rstd` block. -/
theorem rstd_ld {off : Fin 2 → ℕ} {a : ℕ} (v : View sig .tc .vmem S8x1024 .f32) (f : v.ty.Contents (Elt Ideal)) (h : off = ![0, a])
    (inb : ∀ b, off b + S8x128.size b ≤ S8x1024.size b) (p : Fin 8) (l : Fin 128) (q : Fin 1024) (hq : a + l.val = q.val) :
    v.readAt (Elt Ideal) (Rect.unit (s := S8x1024) off S8x128.size inb).toLoadRect f (ix2 p l : S8x128.Idx) = v.read (Elt Ideal) f (ix2 p q) := by
  subst h
  show v.read (Elt Ideal) f ((Rect.unit (s := S8x1024) _ S8x128.size inb).emb (ix2 p l)) = _
  congr 1
  funext b
  match b with
  | ⟨0, _⟩ => exact Fin.ext ((ValueKit.rect_emb_unit_val ..).trans (Nat.zero_add _))
  | ⟨1, _⟩ => exact Fin.ext ((ValueKit.rect_emb_unit_val ..).trans hq)

section
variable (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
variable (x0 x1 : Vec Ideal S1x256x4096 .bf16) (x2 : Vec Ideal S1x4096 .f32) (x3 : Vec Ideal S8x1024 .f32)
  (fs0 : BufTy.Contents (Elt Ideal) arg9.view.ty) (fs1 : BufTy.Contents (Elt Ideal) arg10.view.ty)
  (fs3 : BufTy.Contents (Elt Ideal) arg12.view.ty) (A13 : BufTy.Contents (Elt Ideal) arg13.view.ty) (f5 : BufTy.Contents (Elt Ideal) arg7.view.ty)

/-- The stores to the `rstd` column. -/
def L11 : List (View.Piece (Elt Ideal) S256x128 .f32) :=
  [⟨Rect.unit (s := S256x128) ![128, 0] S128x128.size inb_S256x128_S128x128_128_0, k0_pay346 (F := Ideal) (k0_pay344 i)
      (View.readAt (Elt Ideal) arg5.view (Rect.unit (s := S8x1024) (k0_off1 i 128#32) S8x128.size (k0_part44_skel._proof_1 i)).toLoadRect (harg5.unread x3))⟩,
    ⟨Rect.unit (s := S256x128) ![0, 0] S128x128.size inb_S256x128_S128x128_0_0, k0_pay345 (F := Ideal) i
      (View.readAt (Elt Ideal) arg5.view (Rect.unit (s := S8x1024) (k0_off1 i 0#32) S8x128.size (k0_part43_skel._proof_1 i)).toLoadRect (harg5.unread x3))⟩]

/-- The column after them. -/
def A11 : BufTy.Contents (Elt Ideal) arg11.view.ty := arg11.view.writes (Elt Ideal) arg11.view.junk (L11 i arg5 harg5 x3)

theorem rv_read (r : Fin 256) (l : Fin 128) : arg11.view.read (Elt Ideal) (A11 i arg5 harg5 arg11 x3) (ix2 r l) = rvOf i x3 r := by
  have hi : (i 1).val < 4 := (i 1).isLt
  unfold A11 L11 rvOf
  by_cases h : 128 ≤ r.val
  · refine (View.read_writes_cons_hit_of_coords _ _ _ _ _ (ix2 (⟨r.val - 128, by omega⟩ : Fin 128) l) (ix2 r l) ?_).trans ?_
    · intro a
      match a with
      | ⟨0, _⟩ => show r.val = 128 + 1 * (r.val - 128); omega
      | ⟨1, _⟩ => show l.val = 0 + 1 * l.val; omega
    · refine (pay346_at i _ _ l).trans ?_
      rw [rstd_ld _ _ (off1_at1 i) _ (rowOf i) _ ⟨256 * (i 1).val + r.val, by omega⟩ (by show 256 * (i 1).val + 128 + (r.val - 128) = 256 * (i 1).val + r.val; omega), harg5.read_unread]
  · refine (View.read_writes_cons_miss_of_axis _ _ _ _ (ix2 r l) 0 128 128 rfl rfl rfl (Or.inl (by show r.val < 128; omega))).trans ?_
    refine (View.read_writes_cons_hit_of_coords _ _ _ _ _ (ix2 (⟨r.val, by omega⟩ : Fin 128) l) (ix2 r l) ?_).trans ?_
    · intro a
      match a with
      | ⟨0, _⟩ => show r.val = 0 + 1 * r.val; omega
      | ⟨1, _⟩ => show l.val = 0 + 1 * l.val; omega
    · refine (pay345_at i _ _ l).trans ?_
      rw [rstd_ld _ _ (off1_at0 i) _ (rowOf i) _ ⟨256 * (i 1).val + r.val, by omega⟩ rfl, harg5.read_unread]

/-- The first loop's stores. -/
def W1 := pb_k0_t1 (F := Ideal) Variants.none c none i arg2 harg2 arg3 harg3 arg4 harg4 arg5 harg5 arg6 harg6 arg7 harg7 arg8 harg8 arg9 harg9 arg10 harg10 arg11 harg11 arg12 harg12 arg13 harg13 (k0_pay344 i) (Scalar.muli (BitVec.ofNat 32 (i 1).val) 256#32) (harg2.unread x0) (harg3.unread x1) (harg4.unread x2)
  (A11 i arg5 harg5 arg11 x3) fs0 fs1 fs3 A13 (Scf.trips k0_t1_loop.lb k0_t1_loop.ub k0_t1_loop.st)

def xv (r : Fin 256) (j : Fin 4096) : EReal := x0 (ix3 0 r j)
def gv (j : Fin 4096) : EReal := x2 (ix2 0 j)

theorem w1_values (a0 : Fin 8 → Fin 4096 → EReal) (h13 : ∀ e j, arg13.view.read (Elt Ideal) A13 (ix2 e j) = a0 e j) :
    (∀ r j, arg9.view.read (Elt Ideal) (arg9.view.writes (Elt Ideal) fs0 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).1) (ix2 r j) = xv x0 r j * rvOf i x3 r) ∧
    (∀ r j, arg10.view.read (Elt Ideal) (arg10.view.writes (Elt Ideal) fs1 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.1) (ix2 r j) = xv x1 r j * gv x2 j) ∧
    (∀ r l, arg12.view.read (Elt Ideal) (arg12.view.writes (Elt Ideal) fs3 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.2.1) (ix2 r l)
      = laneSum (fun j => xv x1 r j * gv x2 j * (xv x0 r j * rvOf i x3 r)) l) ∧
    (∀ e j, arg13.view.read (Elt Ideal) (arg13.view.writes (Elt Ideal) A13 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.2.2) (ix2 e j)
      = accOf (xv x0) (xv x1) (rvOf i x3) a0 e j) := by
  obtain ⟨h1, h2, h3, h4⟩ := loop1 Variants.none c none i arg2 harg2 arg3 harg3 arg4 harg4 arg5 harg5 arg6 harg6 arg7 harg7 arg8 harg8 arg9 harg9 arg10 harg10 arg11 harg11 arg12 harg12 arg13 harg13 (k0_pay344 i) (Scalar.muli (BitVec.ofNat 32 (i 1).val) 256#32) (harg2.unread x0) (harg3.unread x1) (harg4.unread x2)
    (A11 i arg5 harg5 arg11 x3) fs0 fs1 fs3 A13 (xv x0) (xv x1) (gv x2) (fun r _ => rvOf i x3 r) a0
    (fun r j => by rw [harg2.read_unread]; rfl) (fun r j => by rw [harg3.read_unread]; rfl) (fun j => by rw [harg4.read_unread]; rfl)
    (rv_read i arg5 harg5 arg11 x3) h13 8 le_rfl
  exact ⟨fun r j => h1 r j (by omega), fun r j => h2 r j (by omega), fun r l => h3 r l (by omega), h4⟩

/-- The load of the lanes' sums, and the stores of the mean over them. -/
def L12 : List (View.Piece (Elt Ideal) S256x128 .f32) :=
  ⟨Rect.unit (s := S256x128) ![0, 0] S256x128.size inb_S256x128_S256x128_0_0, k0_pay349 (F := Ideal)
    (View.readAt (Elt Ideal) arg12.view (Rect.unit (s := S256x128) ![0, 0] S256x128.size inb_S256x128_S256x128_0_0).toLoadRect
      (arg12.view.writes (Elt Ideal) fs3 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.2.1))⟩ :: (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.2.1
def A12 : BufTy.Contents (Elt Ideal) arg12.view.ty := arg12.view.writes (Elt Ideal) arg12.view.junk (L12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)

theorem mean_read (a0 : Fin 8 → Fin 4096 → EReal) (h13 : ∀ e j, arg13.view.read (Elt Ideal) A13 (ix2 e j) = a0 e j) (r : Fin 256) (l : Fin 128) :
    arg12.view.read (Elt Ideal) (A12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13) (ix2 r l) = rowMean (xv x0) (xv x1) (gv x2) (rvOf i x3) r := by
  unfold A12 L12 rowMean
  rw [View.read_writes_full, pay349_at, View.readAt_full]
  simp only [(w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13).2.2.1]

/-- The second loop's stores. -/
def W2 := pb_k0_t2 (F := Ideal) Variants.none c none i arg2 harg2 arg3 harg3 arg4 harg4 arg5 harg5 arg6 harg6 arg7 harg7 arg8 harg8 arg9 harg9 arg10 harg10 arg11 harg11 arg12 harg12 arg13 harg13 (k0_pay344 i) (Scalar.muli (BitVec.ofNat 32 (i 1).val) 256#32)
  (arg9.view.writes (Elt Ideal) fs0 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).1) (arg10.view.writes (Elt Ideal) fs1 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.1) (A12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)
  (Scf.trips k0_t2_loop.lb k0_t2_loop.ub k0_t2_loop.st)

theorem w2_values (a0 : Fin 8 → Fin 4096 → EReal) (h13 : ∀ e j, arg13.view.read (Elt Ideal) A13 (ix2 e j) = a0 e j) :
    (∀ r j, arg10.view.read (Elt Ideal) (arg10.view.writes (Elt Ideal) (arg10.view.writes (Elt Ideal) fs1 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.1) (W2 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).1) (ix2 r j)
      = rowU (xv x0) (xv x1) (gv x2) (rvOf i x3) r j) ∧
    (∀ r l, arg12.view.read (Elt Ideal) (arg12.view.writes (Elt Ideal) (A12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13) (W2 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2) (ix2 r l)
      = laneTop (fun j => rowU (xv x0) (xv x1) (gv x2) (rvOf i x3) r j) l) := by
  obtain ⟨k1, k2, _, _⟩ := w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13
  obtain ⟨h1, h2⟩ := loop2 Variants.none c none i arg2 harg2 arg3 harg3 arg4 harg4 arg5 harg5 arg6 harg6 arg7 harg7 arg8 harg8 arg9 harg9 arg10 harg10 arg11 harg11 arg12 harg12 arg13 harg13 (k0_pay344 i) (Scalar.muli (BitVec.ofNat 32 (i 1).val) 256#32)
    (arg9.view.writes (Elt Ideal) fs0 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).1) (arg10.view.writes (Elt Ideal) fs1 (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.1) (A12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)
    (fun r j => xv x0 r j * rvOf i x3 r) (fun r j => xv x1 r j * gv x2 j) (fun r _ => rowMean (xv x0) (xv x1) (gv x2) (rvOf i x3) r)
    k1 k2 (mean_read c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13) 8 le_rfl
  exact ⟨fun r j => (h1 r j).trans (if_pos (by omega)), fun r l => (h2 r l).trans (if_pos (by omega))⟩

/-- The `rstd` column as it is loaded again, the rows' largest magnitudes, and the exponent words. -/
def V63 : Vec Ideal S256x128 .f32 := arg11.view.readCov (L11 i arg5 harg5 x3) (Rect.unit (s := S256x128) ![0, 0] S256x128.size inb_S256x128_S256x128_0_0).toLoadRect
def V64 : Vec Ideal S256x128 .f32 := arg12.view.readCov ((W2 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2 ++ L12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13) (Rect.unit (s := S256x128) ![0, 0] S256x128.size inb_S256x128_S256x128_0_0).toLoadRect
def EW : IVec S256x128 32 :=
  k0_pay363 (F := Ideal) (k0_pay359 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3)))
    (k0_pay360 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3)))
    (k0_pay361 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3))) k0_pay362
def NW : IVec S256x128 32 :=
  k0_pay364 (F := Ideal) (k0_pay359 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3)))
    (k0_pay360 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3)))
    (k0_pay361 (k0_pay357 (V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)) (k0_pay358 (V63 i arg5 harg5 arg11 x3))) k0_pay362

theorem V63_at (r : Fin 256) (l : Fin 128) : V63 i arg5 harg5 arg11 x3 (ix2 r l) = rvOf i x3 r := by
  unfold V63 View.readCov
  rw [View.readAt_full]
  exact rv_read i arg5 harg5 arg11 x3 r l

theorem V64_at (a0 : Fin 8 → Fin 4096 → EReal) (h13 : ∀ e j, arg13.view.read (Elt Ideal) A13 (ix2 e j) = a0 e j) (r : Fin 256) (l : Fin 128) :
    V64 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 (ix2 r l) = laneTop (fun j => rowU (xv x0) (xv x1) (gv x2) (rvOf i x3) r j) l := by
  unfold V64 View.readCov
  rw [View.readAt_full, View.writes_append]
  exact (w2_values c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13).2 r l

theorem EW_at (a0 : Fin 8 → Fin 4096 → EReal) (h13 : ∀ e j, arg13.view.read (Elt Ideal) A13 (ix2 e j) = a0 e j) (r : Fin 256) (l : Fin 128) :
    EW c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 (ix2 r l) = rowExp (xv x0) (xv x1) (gv x2) (rvOf i x3) r := by
  unfold EW rowExp rowMax
  rw [exponent_at, pay357_at, pay358_at, V63_at]
  simp only [V64_at c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13]

theorem NW_at (a0 : Fin 8 → Fin 4096 → EReal) (h13 : ∀ e j, arg13.view.read (Elt Ideal) A13 (ix2 e j) = a0 e j) (r : Fin 256) (l : Fin 128) :
    NW c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 (ix2 r l) = IntOp.subi 0#32 (rowExp (xv x0) (xv x1) (gv x2) (rvOf i x3) r) := by
  rw [← EW_at c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13 r l]
  exact pay364_at _ _ _ _ _

/-- The codes' block. -/
theorem code_read (a0 : Fin 8 → Fin 4096 → EReal) (h13 : ∀ e j, arg13.view.read (Elt Ideal) A13 (ix2 e j) = a0 e j) (r : Fin 256) (j : Fin 4096) :
    arg7.view.read (Elt Ideal) (arg7.view.writes (Elt Ideal) f5 (pb_k0_t3 (F := Ideal) Variants.none c none i arg2 harg2 arg3 harg3 arg4 harg4 arg5 harg5 arg6 harg6 arg7 harg7 arg8 harg8 arg9 harg9 arg10 harg10 arg11 harg11 arg12 harg12 arg13 harg13
        (arg10.view.writes (Elt Ideal) fs1 ((W2 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).1 ++ (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2.1))
        (arg12.view.writes (Elt Ideal) arg12.view.junk
          (⟨Rect.unit (s := S256x128) ![0, 0] S256x128.size inb_S256x128_S256x128_0_0, k0_pay365 (F := Ideal) (V63 i arg5 harg5 arg11 x3) (NW c i arg2 harg2 arg3 harg3 arg4 harg4 arg5 harg5 arg6 harg6 arg7 harg7 arg8 harg8 arg9 harg9 arg10 harg10 arg11 harg11 arg12 harg12 arg13 harg13 x0 x1 x2 x3 fs0 fs1 fs3 A13) 127#32⟩
            :: ((W2 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13).2 ++ L12 c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)))
        (Scf.trips k0_t3_loop.lb k0_t3_loop.ub k0_t3_loop.st))) (ix3 0 r j)
      = rowCode (xv x0) (xv x1) (gv x2) (rvOf i x3) r j := by
  refine (loop3 Variants.none c none i arg2 harg2 arg3 harg3 arg4 harg4 arg5 harg5 arg6 harg6 arg7 harg7 arg8 harg8 arg9 harg9 arg10 harg10 arg11 harg11 arg12 harg12 arg13 harg13 _ _ f5 (rowU (xv x0) (xv x1) (gv x2) (rvOf i x3))
    (fun r _ => rvOf i x3 r * powB (IntOp.subi 0#32 (rowExp (xv x0) (xv x1) (gv x2) (rvOf i x3) r))) ?_ ?_ 8 le_rfl r j (by omega)).trans rfl
  · intro r j
    rw [View.writes_append]
    exact (w2_values c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13).1 r j
  · intro r l
    rw [View.read_writes_full, pay365_at, V63_at, NW_at c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13]

/-- The scales' block. -/
theorem scale_read (a0 : Fin 8 → Fin 4096 → EReal) (h13 : ∀ e j, arg13.view.read (Elt Ideal) A13 (ix2 e j) = a0 e j) (r : Fin 256) :
    arg8.view.read (Elt Ideal) (arg8.view.writes (Elt Ideal) arg8.view.junk
        [⟨Rect.unit (s := S1x1x256) ![0, 0, 128] ![1, 1, 128] inb_S1x1x256_S1x1x128_0_0_128, k0_pay1 (k0_pay368 (F := Ideal) (EW c i arg2 harg2 arg3 harg3 arg4 harg4 arg5 harg5 arg6 harg6 arg7 harg7 arg8 harg8 arg9 harg9 arg10 harg10 arg11 harg11 arg12 harg12 arg13 harg13 x0 x1 x2 x3 fs0 fs1 fs3 A13))⟩,
          ⟨Rect.unit (s := S1x1x256) ![0, 0, 0] S1x1x128.size inb_S1x1x256_S1x1x128_0_0_0, k0_pay367 (F := Ideal) (EW c i arg2 harg2 arg3 harg3 arg4 harg4 arg5 harg5 arg6 harg6 arg7 harg7 arg8 harg8 arg9 harg9 arg10 harg10 arg11 harg11 arg12 harg12 arg13 harg13 x0 x1 x2 x3 fs0 fs1 fs3 A13)⟩]) (ix3 0 0 r)
      = rowScale (xv x0) (xv x1) (gv x2) (rvOf i x3) r := by
  unfold rowScale
  by_cases h : 128 ≤ r.val
  · refine (View.read_writes_cons_hit_of_coords _ _ _ _ _ (ix3 (0 : Fin 1) (0 : Fin 1) (⟨r.val - 128, by omega⟩ : Fin 128)) (ix3 0 0 r) ?_).trans ?_
    · intro a
      match a with
      | ⟨0, _⟩ => rfl
      | ⟨1, _⟩ => rfl
      | ⟨2, _⟩ => show r.val = 128 + 1 * (r.val - 128); omega
    · refine (pay368_at _ _).trans ?_
      rw [EW_at c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13]
      congr 2
      exact Fin.ext (by show 128 + (r.val - 128) = r.val; omega)
  · refine (View.read_writes_cons_miss_of_axis _ _ _ _ (ix3 0 0 r) 2 128 128 rfl rfl rfl (Or.inl (by show r.val < 128; omega))).trans ?_
    refine (View.read_writes_cons_hit_of_coords _ _ _ _ _ (ix3 (0 : Fin 1) (0 : Fin 1) (⟨r.val, by omega⟩ : Fin 128)) (ix3 0 0 r) ?_).trans ?_
    · intro a
      match a with
      | ⟨0, _⟩ => rfl
      | ⟨1, _⟩ => rfl
      | ⟨2, _⟩ => show r.val = 0 + 1 * r.val; omega
    · refine (pay367_at _ _).trans ?_
      rw [EW_at c i arg2 harg2 arg3 harg3 arg4 harg4 arg5 harg5 arg6 harg6 arg7 harg7 arg8 harg8 arg9 harg9 arg10 harg10 arg11 harg11 arg12 harg12 arg13 harg13 x0 x1 x2 x3 fs0 fs1 fs3 A13 a0 h13]

end
end Cert.KernelIdeal.Gen

end
-- ==== Proof.BodyFirst.lean ====
module

public import proofs.«01_k».proof.Proof.Values
public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Powers
open Idealize.ShloMosaic.Pipeline (Dat Cfg Window BodyObligation BodyObligationLoose cellOf)

local notation "𝕄" => MT nD τ sig Unit (Elt Ideal) ℕ (UR sig nD τ) ℕ

/-- The block of codes that a grid point writes. -/
def codeBlk (i : grid0.Coords) (x0 x1 : Vec Ideal S1x256x4096 .bf16) (x2 : Vec Ideal S1x4096 .f32) (x3 : Vec Ideal S8x1024 .f32) : Vec Ideal S1x256x4096 .fp8e5m2 :=
  fun y => rowCode (xv x0) (xv x1) (gv x2) (rvOf i x3) (y 1) (y 2)
/-- The block of scales that a grid point writes. -/
def scaleBlk (i : grid0.Coords) (x0 x1 : Vec Ideal S1x256x4096 .bf16) (x2 : Vec Ideal S1x4096 .f32) (x3 : Vec Ideal S8x1024 .f32) : Vec Ideal S1x1x256 .f32 :=
  fun y => rowScale (xv x0) (xv x1) (gv x2) (rvOf i x3) (y 2)
/-- The accumulator after a grid point that found it at `a`. -/
def accBlk (i : grid0.Coords) (x0 x1 : Vec Ideal S1x256x4096 .bf16) (x3 : Vec Ideal S8x1024 .f32) (a : Vec Ideal S8x4096 .f32) : Vec Ideal S8x4096 .f32 :=
  fun y => accOf (xv x0) (xv x1) (rvOf i x3) (fun e j => a (ix2 e j)) (y 0) (y 1)
/-- The accumulator before the first grid point's work. -/
def acc0 : Vec Ideal S8x4096 .f32 := fun _ => 0
/-- The sum of the accumulator's rows. -/
def colBlk (a : Vec Ideal S8x4096 .f32) : Vec Ideal S1x4096 .f32 := fun y => ∑ e : Fin 8, a (ix2 e (y 1))

/-- The condition that the grid point is the first. -/
abbrev firstC (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The body at the first grid point: the accumulator starts from zero. -/
theorem body_first (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
    (x0 x1 : Vec Ideal S1x256x4096 .bf16) (x2 : Vec Ideal S1x4096 .f32) (x3 : Vec Ideal S8x1024 .f32) (d4 : Vec Ideal S1x4096 .f32)
    (hc0 : firstC i) (hc1 : ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare (codeBlk i x0 x1 x2 x3) ∗ owns (c : Thread nD τ) arg8 fullShare (scaleBlk i x0 x1 x2 x3) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (accBlk i x0 x1 x3 acc0)) -∗ K ⟨⟩))
      ⊢ wp frame (wpE (defs₀ (F := Ideal)) Variants.none c none) E (cc0_rmsnorm_bwd_e5m2 i arg2 harg2 arg3 harg3 arg4 harg4 arg5 harg5 arg6 harg6 arg7 harg7 arg8 harg8 arg9 harg9 arg10 harg10 arg11 harg11 arg12 harg12 arg13 harg13) K := by
  simp only [cc0_rmsnorm_bwd_e5m2_eq_skeleton]; unfold cc0_rmsnorm_bwd_e5m2_skel
  simp only [k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3

  obtain rfl := harg6.eq_unread hf4
  have h13 : ∀ e j, arg13.view.read (Elt Ideal) (arg13.view.writes (Elt Ideal) arg13.view.junk [⟨Rect.unit (s := S8x4096) ![0, 0] S8x4096.size inb_S8x4096_S8x4096_0_0, k0_pay343 (F := Ideal)⟩]) (ix2 e j) = acc0 (ix2 e j) := fun e j => by
    rw [View.read_writes_full]; exact pay343_at e j
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    exact harg6.read_unread _
  isplitl [H5]
  · iexists _; isplitr; swap; · iexact H5
    ipureintro
    funext y
    obtain ⟨o, r, j, rfl⟩ : ∃ o r j, y = ix3 o r j := ⟨y 0, y 1, y 2, eq_ix3 y⟩
    obtain rfl : o = 0 := Subsingleton.elim _ _
    exact code_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (arg13.view.writes (Elt Ideal) arg13.view.junk [⟨Rect.unit (s := S8x4096) ![0, 0] S8x4096.size inb_S8x4096_S8x4096_0_0, k0_pay343 (F := Ideal)⟩]) f5 (fun e j => acc0 (ix2 e j)) h13 r j
  isplitl [H6]
  · iexists _; isplitr; swap; · iexact H6
    ipureintro
    funext y
    obtain ⟨o, p, r, rfl⟩ : ∃ o p r, y = ix3 o p r := ⟨y 0, y 1, y 2, eq_ix3 y⟩
    obtain rfl : o = 0 := Subsingleton.elim _ _
    obtain rfl : p = 0 := Subsingleton.elim _ _
    exact scale_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (arg13.view.writes (Elt Ideal) arg13.view.junk [⟨Rect.unit (s := S8x4096) ![0, 0] S8x4096.size inb_S8x4096_S8x4096_0_0, k0_pay343 (F := Ideal)⟩]) (fun e j => acc0 (ix2 e j)) h13 r
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _; isplitr; swap; · iexact HS4
  ipureintro
  funext y
  obtain ⟨e, j, rfl⟩ : ∃ e j, y = ix2 e j := ⟨y 0, y 1, eq_ix2 y⟩
  rw [View.writes_append]
  exact (w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 (arg13.view.writes (Elt Ideal) arg13.view.junk [⟨Rect.unit (s := S8x4096) ![0, 0] S8x4096.size inb_S8x4096_S8x4096_0_0, k0_pay343 (F := Ideal)⟩]) (fun e j => acc0 (ix2 e j)) h13).2.2.2 e j

end Cert.KernelIdeal.Gen

end
-- ==== Proof.Blocks.lean ====
module

public import proofs.«01_k».proof.Proof.BodyFirst
public import proofs.«01_k».proof.Proof.KernelIdealFrame
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## Where the blocks of a grid point lie -/

theorem transform_0_val (i : grid0.Coords) : cc0_transform_0 i = ![(i 0).val, (i 1).val, 0] := by
  have h0 : (i 0).val < 57 := (i 0).isLt
  have h1 : (i 1).val < 4 := (i 1).isLt
  unfold cc0_transform_0
  simp only [BitVec.toNat_ofNat]
  rw [Nat.mod_eq_of_lt (by omega), Nat.mod_eq_of_lt (by omega), Nat.zero_mod]
theorem transform_1_val (i : grid0.Coords) : cc0_transform_1 i = ![(i 0).val, (i 1).val, 0] := transform_0_val i
theorem transform_5_val (i : grid0.Coords) : cc0_transform_5 i = ![(i 0).val, (i 1).val, 0] := transform_0_val i
theorem transform_6_val (i : grid0.Coords) : cc0_transform_6 i = ![(i 0).val, 0, (i 1).val] := by
  have h0 : (i 0).val < 57 := (i 0).isLt
  have h1 : (i 1).val < 4 := (i 1).isLt
  unfold cc0_transform_6
  simp only [BitVec.toNat_ofNat]
  rw [Nat.mod_eq_of_lt (by omega), Nat.zero_mod, Nat.mod_eq_of_lt (by omega)]
theorem transform_3_val (i : grid0.Coords) : cc0_transform_3 i = ![(i 0).val / 8, 0] := by
  have h : ∀ a : Fin 57, (cc0_transform_3 (fun b => match b with | 0 => a | 1 => (0 : Fin 4)) : Fin 2 → Nat) = ![a.val / 8, 0] := by decide
  exact h (i 0)

/-- The row of the first two arguments' blocks at which a block's row lies. -/
def rowAt (i : grid0.Coords) (r : Fin 256) : Fin 1024 :=
  ⟨256 * (i 1).val + r.val, by have : (i 1).val < 4 := (i 1).isLt; omega⟩
/-- The batch of a grid point. -/
def batchAt (i : grid0.Coords) : Fin 57 := ⟨(i 0).val, (i 0).isLt⟩

theorem x_block (c : Dev nD) (t : Fin cfg0.N) (r : Fin 256) (j : Fin 4096) :
    xv (iblk m c 0 t) r j = V m c main_arg0 (ix3 (batchAt (grid0.coords t)) (rowAt (grid0.coords t) r) j) := by
  show V m c main_arg0 (((cfg0.win 0).blk t).view.emb (ix3 0 r j)) = _
  refine congrArg (V m c main_arg0) (funext fun a => Fin.ext ?_)
  refine (Window.rect_emb_val win0_0 t (ix3 0 r j) a).trans ?_
  rw [show win0_0.index t = _ from transform_0_val (grid0.coords t)]
  match a with
  | 0 => show (grid0.coords t 0).val * 1 + 0 = (grid0.coords t 0).val; omega
  | 1 => show (grid0.coords t 1).val * 256 + r.val = 256 * (grid0.coords t 1).val + r.val; omega
  | 2 => show 0 * 4096 + j.val = j.val; omega

theorem dy_block (c : Dev nD) (t : Fin cfg0.N) (r : Fin 256) (j : Fin 4096) :
    xv (iblk m c 1 t) r j = V m c main_arg1 (ix3 (batchAt (grid0.coords t)) (rowAt (grid0.coords t) r) j) := by
  show V m c main_arg1 (((cfg0.win 1).blk t).view.emb (ix3 0 r j)) = _
  refine congrArg (V m c main_arg1) (funext fun a => Fin.ext ?_)
  refine (Window.rect_emb_val win0_1 t (ix3 0 r j) a).trans ?_
  rw [show win0_1.index t = _ from transform_1_val (grid0.coords t)]
  match a with
  | 0 => show (grid0.coords t 0).val * 1 + 0 = (grid0.coords t 0).val; omega
  | 1 => show (grid0.coords t 1).val * 256 + r.val = 256 * (grid0.coords t 1).val + r.val; omega
  | 2 => show 0 * 4096 + j.val = j.val; omega

theorem gamma_block (c : Dev nD) (t : Fin cfg0.N) (j : Fin 4096) :
    gv (iblk m c 2 t) j = V m c main_v0 (ix2 0 j) := by
  show V m c main_v0 (((cfg0.win 2).blk t).view.emb (ix2 0 j)) = _
  refine congrArg (V m c main_v0) (funext fun a => Fin.ext ?_)
  refine (Window.rect_emb_val win0_2 t (ix2 0 j) a).trans ?_
  rw [show win0_2.index t = ![0, 0] from rfl]
  match a with
  | 0 => rfl
  | 1 => show 0 * 4096 + j.val = j.val; omega

theorem rstd_rows (i : grid0.Coords) : (i 0).val % 8 < win0_3.xsize i 0 := by
  have h0 : (i 0).val < 57 := (i 0).isLt
  show _ < (Pipeline.Clip.of (cc0_transform_3 i 0) 8 57).extent 8
  rw [transform_3_val]
  show _ < (Pipeline.Clip.of ((i 0).val / 8) 8 57).extent 8
  generalize (i 0).val = n at *
  unfold Pipeline.Clip.of
  split
  · show _ < 8; omega
  · show _ < 57 - _; omega
theorem rstd_cols (i : grid0.Coords) : 1024 ≤ win0_3.xsize i 1 := by
  show _ ≤ (Pipeline.Clip.of (cc0_transform_3 i 1) 1024 1024).extent 1024
  rw [transform_3_val]
  exact le_refl 1024
/-- Where row `r` of a grid point lies in the part of the `rstd` block inside the array. -/
def rstdIdx (i : grid0.Coords) (r : Fin 256) : (win0_3.xblock i).Idx := fun a => match a with
  | 0 => ⟨(i 0).val % 8, rstd_rows i⟩
  | 1 => ⟨(rowAt i r).val, lt_of_lt_of_le (rowAt i r).isLt (rstd_cols i)⟩
theorem rstdIdx_inj (i : grid0.Coords) (r : Fin 256) :
    (ix2 (rowOf i) (rowAt i r) : S8x1024.Idx) = win0_3.xinj i (rstdIdx i r) := by
  funext a; match a with | 0 => rfl | 1 => rfl
theorem rstd_emb (t : Fin cfg0.N) (r : Fin 256) :
    (((cfg0.win 3).blk t).view.emb (rstdIdx (grid0.coords t) r) : S57x1024.Idx)
      = ix2 (batchAt (grid0.coords t)) (rowAt (grid0.coords t) r) := by
  refine funext fun a => Fin.ext ?_
  refine (Window.rect_emb_val win0_3 t (rstdIdx (grid0.coords t) r) a).trans ?_
  rw [show win0_3.index t = _ from transform_3_val (grid0.coords t)]
  match a with
  | 0 => exact Nat.div_add_mod' (grid0.coords t 0).val 8
  | 1 =>
    show 0 * 1024 + (rowAt (grid0.coords t) r).val = (rowAt (grid0.coords t) r).val
    rw [Nat.zero_mul, Nat.zero_add]
/-- The `rstd` values of a grid point, whatever lies past the array's end in the buffer. -/
theorem rstd_block (c : Dev nD) (t : Fin cfg0.N) (d : S8x1024.Idx → Elt Ideal .f32) (r : Fin 256) :
    rvOf (grid0.coords t) (win0_3.fill (grid0.coords t) d (iblk m c 3 t)) r
      = V m c main_arg3 (ix2 (batchAt (grid0.coords t)) (rowAt (grid0.coords t) r)) := by
  refine (congrArg (win0_3.fill (grid0.coords t) d (iblk m c 3 t)) (rstdIdx_inj (grid0.coords t) r)).trans ?_
  refine (win0_3.fill_xinj (grid0.coords t) d (iblk m c 3 t) (rstdIdx (grid0.coords t) r)).trans ?_
  exact congrArg (V m c main_arg3) (rstd_emb t r)

end Cert.KernelIdeal.Gen

end
-- ==== Proof.BodyMiddle.lean ====
module

public import proofs.«01_k».proof.Proof.BodyFirst
public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Powers
open Idealize.ShloMosaic.Pipeline (Dat Cfg Window BodyObligation BodyObligationLoose cellOf)

local notation "𝕄" => MT nD τ sig Unit (Elt Ideal) ℕ (UR sig nD τ) ℕ

/-- The body at a grid point that is neither the first nor the last: the accumulator goes on from what it held. -/
theorem body_middle (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
    (x0 x1 : Vec Ideal S1x256x4096 .bf16) (x2 : Vec Ideal S1x4096 .f32) (x3 : Vec Ideal S8x1024 .f32) (xs : Vec Ideal S8x4096 .f32) (d4 : Vec Ideal S1x4096 .f32)
    (hc0 : ¬ firstC i) (hc1 : ¬ k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare (codeBlk i x0 x1 x2 x3) ∗ owns (c : Thread nD τ) arg8 fullShare (scaleBlk i x0 x1 x2 x3) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (accBlk i x0 x1 x3 xs)) -∗ K ⟨⟩))
      ⊢ wp frame (wpE (defs₀ (F := Ideal)) Variants.none c none) E (cc0_rmsnorm_bwd_e5m2 i arg2 harg2 arg3 harg3 arg4 harg4 arg5 harg5 arg6 harg6 arg7 harg7 arg8 harg8 arg9 harg9 arg10 harg10 arg11 harg11 arg12 harg12 arg13 harg13) K := by
  simp only [cc0_rmsnorm_bwd_e5m2_eq_skeleton]; unfold cc0_rmsnorm_bwd_e5m2_skel
  simp only [k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
  obtain rfl := harg2.eq_unread hf0; obtain rfl := harg3.eq_unread hf1; obtain rfl := harg4.eq_unread hf2; obtain rfl := harg5.eq_unread hf3
  obtain rfl := harg13.eq_unread hfs4
  obtain rfl := harg6.eq_unread hf4
  have h13 : ∀ e j, arg13.view.read (Elt Ideal) (harg13.unread xs) (ix2 e j) = xs (ix2 e j) := fun e j => by
    rw [harg13.read_unread]
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    exact harg6.read_unread _
  isplitl [H5]
  · iexists _; isplitr; swap; · iexact H5
    ipureintro
    funext y
    obtain ⟨o, r, j, rfl⟩ : ∃ o r j, y = ix3 o r j := ⟨y 0, y 1, y 2, eq_ix3 y⟩
    obtain rfl : o = 0 := Subsingleton.elim _ _
    exact code_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) f5 (fun e j => xs (ix2 e j)) h13 r j
  isplitl [H6]
  · iexists _; isplitr; swap; · iexact H6
    ipureintro
    funext y
    obtain ⟨o, p, r, rfl⟩ : ∃ o p r, y = ix3 o p r := ⟨y 0, y 1, y 2, eq_ix3 y⟩
    obtain rfl : o = 0 := Subsingleton.elim _ _
    obtain rfl : p = 0 := Subsingleton.elim _ _
    exact scale_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) (fun e j => xs (ix2 e j)) h13 r
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _; isplitr; swap; · iexact HS4
  ipureintro
  funext y
  obtain ⟨e, j, rfl⟩ : ∃ e j, y = ix2 e j := ⟨y 0, y 1, eq_ix2 y⟩

  exact (w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) (fun e j => xs (ix2 e j)) h13).2.2.2 e j

end Cert.KernelIdeal.Gen

end
-- ==== Proof.BodyLast.lean ====
module

public import proofs.«01_k».proof.Proof.BodyFirst
public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Powers
open Idealize.ShloMosaic.Pipeline (Dat Cfg Window BodyObligation BodyObligationLoose cellOf)

local notation "𝕄" => MT nD τ sig Unit (Elt Ideal) ℕ (UR sig nD τ) ℕ

/-- The body at the last grid point: the accumulator's rows are summed into the first result. -/
theorem body_last (c : Dev nD) (i : grid0.Coords) (arg2 : Memref sig .tc .vmem S1x256x4096 .bf16) (harg2 : arg2.IsWhole) (arg3 : Memref sig .tc .vmem S1x256x4096 .bf16) (harg3 : arg3.IsWhole) (arg4 : Memref sig .tc .vmem S1x4096 .f32) (harg4 : arg4.IsWhole) (arg5 : Memref sig .tc .vmem S8x1024 .f32) (harg5 : arg5.IsWhole) (arg6 : Memref sig .tc .vmem S1x4096 .f32) (harg6 : arg6.IsWhole) (arg7 : Memref sig .tc .vmem S1x256x4096 .fp8e5m2) (harg7 : arg7.IsWhole) (arg8 : Memref sig .tc .vmem S1x1x256 .f32) (harg8 : arg8.IsWhole) (arg9 : Memref sig .tc .vmem S256x4096 .f32) (harg9 : arg9.IsWhole) (arg10 : Memref sig .tc .vmem S256x4096 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S8x4096 .f32) (harg13 : arg13.IsWhole)
    (x0 x1 : Vec Ideal S1x256x4096 .bf16) (x2 : Vec Ideal S1x4096 .f32) (x3 : Vec Ideal S8x1024 .f32) (xs : Vec Ideal S8x4096 .f32)
    (hc0 : ¬ firstC i) (hc1 : k0_cond2 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (colBlk (accBlk i x0 x1 x3 xs)) ∗ owns (c : Thread nD τ) arg7 fullShare (codeBlk i x0 x1 x2 x3) ∗ owns (c : Thread nD τ) arg8 fullShare (scaleBlk i x0 x1 x2 x3) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (accBlk i x0 x1 x3 xs)) -∗ K ⟨⟩))
      ⊢ wp frame (wpE (defs₀ (F := Ideal)) Variants.none c none) E (cc0_rmsnorm_bwd_e5m2 i arg2 harg2 arg3 harg3 arg4 harg4 arg5 harg5 arg6 harg6 arg7 harg7 arg8 harg8 arg9 harg9 arg10 harg10 arg11 harg11 arg12 harg12 arg13 harg13) K := by
  simp only [cc0_rmsnorm_bwd_e5m2_eq_skeleton]; unfold cc0_rmsnorm_bwd_e5m2_skel
  simp only [k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
  obtain rfl := harg2.eq_unread hf0; obtain rfl := harg3.eq_unread hf1; obtain rfl := harg4.eq_unread hf2; obtain rfl := harg5.eq_unread hf3
  obtain rfl := harg13.eq_unread hfs4

  have h13 : ∀ e j, arg13.view.read (Elt Ideal) (harg13.unread xs) (ix2 e j) = xs (ix2 e j) := fun e j => by
    rw [harg13.read_unread]
  sl_exec (disch := first | sl_exact hc0 | sl_exact hc1)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro
    refine (View.read_writes_full _ _ _ _ _).trans ?_
    funext y
    obtain ⟨o, j, rfl⟩ : ∃ o j, y = ix2 o j := ⟨y 0, y 1, eq_ix2 y⟩
    obtain rfl : o = 0 := Subsingleton.elim _ _
    refine (pay5_at _ j).trans (Finset.sum_congr rfl fun e _ => ?_)
    refine Eq.trans ?_ ((w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) (fun e j => xs (ix2 e j)) h13).2.2.2 e j)
    exact congrFun (View.readAt_full (s := S8x4096) arg13.view (arg13.view.writes (Elt Ideal) (harg13.unread xs) (W1 c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs)).2.2.2) (off := ![0, 0]) inb_S8x4096_S8x4096_0_0) (ix2 e j)
  isplitl [H5]
  · iexists _; isplitr; swap; · iexact H5
    ipureintro
    funext y
    obtain ⟨o, r, j, rfl⟩ : ∃ o r j, y = ix3 o r j := ⟨y 0, y 1, y 2, eq_ix3 y⟩
    obtain rfl : o = 0 := Subsingleton.elim _ _
    exact code_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) f5 (fun e j => xs (ix2 e j)) h13 r j
  isplitl [H6]
  · iexists _; isplitr; swap; · iexact H6
    ipureintro
    funext y
    obtain ⟨o, p, r, rfl⟩ : ∃ o p r, y = ix3 o p r := ⟨y 0, y 1, y 2, eq_ix3 y⟩
    obtain rfl : o = 0 := Subsingleton.elim _ _
    obtain rfl : p = 0 := Subsingleton.elim _ _
    exact scale_read c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) (fun e j => xs (ix2 e j)) h13 r
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _; isplitr; swap; · iexact HS4
  ipureintro
  funext y
  obtain ⟨e, j, rfl⟩ : ∃ e j, y = ix2 e j := ⟨y 0, y 1, eq_ix2 y⟩

  exact (w1_values c i arg2 harg2 arg3 harg3 arg4 harg4 arg5 harg5 arg6 harg6 arg7 harg7 arg8 harg8 arg9 harg9 arg10 harg10 arg11 harg11 arg12 harg12 arg13 harg13 x0 x1 x2 x3 fs0 fs1 fs3 (harg13.unread xs) (fun e j => xs (ix2 e j)) h13).2.2.2 e j

end Cert.KernelIdeal.Gen

end
-- ==== Proof.KernelIdealValue.lean ====
module

public import proofs.«01_k».proof.Proof.Blocks
public import proofs.«01_k».proof.Proof.BodyMiddle
public import proofs.«01_k».proof.Proof.BodyLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What a grid point leaves, over the arrays the region finds -/

/-- The `rstd` buffer of a point, with zeros past the array's end. -/
def x3b (c : Dev nD) (t : Fin cfg0.N) : Vec Ideal S8x1024 .f32 :=
  win0_3.fill (grid0.coords t) (fun _ => Scalar.ofBits (F := Ideal) .f32 0#32) (iblk m c 3 t)

theorem rvOf_fill (c : Dev nD) (t : Fin cfg0.N) (d : S8x1024.Idx → Elt Ideal .f32) :
    rvOf (grid0.coords t) (win0_3.fill (grid0.coords t) d (iblk m c 3 t)) = rvOf (grid0.coords t) (x3b m c t) :=
  funext fun r => (rstd_block m c t d r).trans (rstd_block m c t _ r).symm

/-- The codes, the scales and the accumulator after point `t`. -/
def codeV (c : Dev nD) (t : Fin cfg0.N) : Vec Ideal S1x256x4096 .fp8e5m2 :=
  codeBlk (grid0.coords t) (iblk m c 0 t) (iblk m c 1 t) (iblk m c 2 t) (x3b m c t)
def scaleV (c : Dev nD) (t : Fin cfg0.N) : Vec Ideal S1x1x256 .f32 :=
  scaleBlk (grid0.coords t) (iblk m c 0 t) (iblk m c 1 t) (iblk m c 2 t) (x3b m c t)
def accV (c : Dev nD) (t : Fin cfg0.N) (a : Vec Ideal S8x4096 .f32) : Vec Ideal S8x4096 .f32 :=
  accBlk (grid0.coords t) (iblk m c 0 t) (iblk m c 1 t) (x3b m c t) a

theorem code_fill (c : Dev nD) (t : Fin cfg0.N) (d : S8x1024.Idx → Elt Ideal .f32) :
    codeBlk (grid0.coords t) (iblk m c 0 t) (iblk m c 1 t) (iblk m c 2 t) (win0_3.fill (grid0.coords t) d (iblk m c 3 t)) = codeV m c t := by
  unfold codeV codeBlk; rw [rvOf_fill]
theorem scale_fill (c : Dev nD) (t : Fin cfg0.N) (d : S8x1024.Idx → Elt Ideal .f32) :
    scaleBlk (grid0.coords t) (iblk m c 0 t) (iblk m c 1 t) (iblk m c 2 t) (win0_3.fill (grid0.coords t) d (iblk m c 3 t)) = scaleV m c t := by
  unfold scaleV scaleBlk; rw [rvOf_fill]
theorem acc_fill (c : Dev nD) (t : Fin cfg0.N) (d : S8x1024.Idx → Elt Ideal .f32) (a : Vec Ideal S8x4096 .f32) :
    accBlk (grid0.coords t) (iblk m c 0 t) (iblk m c 1 t) (win0_3.fill (grid0.coords t) d (iblk m c 3 t)) a = accV m c t a := by
  unfold accV accBlk; rw [rvOf_fill]

/-- The accumulator after point `n`: from zero, one point's addition after another. -/
def accN (c : Dev nD) : (n : ℕ) → n < cfg0.N → Vec Ideal S8x4096 .f32
  | 0, h => accV m c ⟨0, h⟩ acc0
  | n + 1, h => accV m c ⟨n + 1, h⟩ (accN c n (Nat.lt_of_succ_lt h))

/-! ## The first and the last point -/

theorem coords_0 (t : Fin grid0.N) : (grid0.coords t 0).val = t.val / 4 := by
  have h : (grid0.coords t 0).val = t.val / 4 % 57 := Pipeline.Grid.coords_val t 0 (by decide) rfl
  have ht : t.val < 228 := lt_of_lt_of_eq t.isLt N_0
  omega
theorem coords_1 (t : Fin grid0.N) : (grid0.coords t 1).val = t.val % 4 := by
  have h : (grid0.coords t 1).val = t.val / 1 % 4 := Pipeline.Grid.coords_val t 1 (by decide) rfl
  omega

theorem first_iff (t : Fin cfg0.N) : firstC (grid0.coords t) ↔ t.val = 0 := by
  have ht : t.val < 228 := lt_of_lt_of_eq t.isLt N_0
  have h : ∀ (a : Fin 57) (b : Fin 4), ((Scalar.cmpi .ne (Scalar.extui (Scalar.andi (Scalar.cmpi .eq (BitVec.ofNat 32 a.val) 0#32) (Scalar.cmpi .eq (BitVec.ofNat 32 b.val) 0#32))) 0#32) = 1#1) ↔ a.val = 0 ∧ b.val = 0 := by decide
  refine (h (grid0.coords t 0) (grid0.coords t 1)).trans ?_
  rw [coords_0, coords_1]; omega
theorem last_iff (t : Fin cfg0.N) : k0_cond2 (grid0.coords t) = 1#1 ↔ t.val = 227 := by
  have ht : t.val < 228 := lt_of_lt_of_eq t.isLt N_0
  have h : ∀ (a : Fin 57) (b : Fin 4), (k0_cond2 (fun k => match k with | 0 => a | 1 => b) = 1#1) ↔ a.val = 56 ∧ b.val = 3 := by decide
  refine (h (grid0.coords t 0) (grid0.coords t 1)).trans ?_
  rw [coords_0, coords_1]; omega

/-! ## The proof data -/

/-- What holds between points: before the first every scratch buffer at anything, afterwards the accumulator at the sum of
    the points so far. -/
def PhiV (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (accN m c n hn)) ∗ (∃ r, prngReg c r))

theorem PhiV_zero (c : Dev nD) (n : ℕ) (h : n ≤ cfg0.N) (hz : n = 0) : PhiV m c n h = Pipeline.ΦA spec0 c := by
  subst hz; rfl
theorem PhiV_succ (c : Dev nD) (n : ℕ) (hn : n < cfg0.N) :
    PhiV m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare (accN m c n hn)) ∗ (∃ r, prngReg c r)) := rfl

/-- The proof data: each input's buffer at its block, the first result's at the accumulator's column sums, the codes' and the
    scales' at the point's own. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => x3b m c t
    | ⟨4, _⟩ => colBlk (accN m c t.val t.isLt)
    | ⟨5, _⟩ => codeV m c t
    | ⟨6, _⟩ => scaleV m c t
  Φ t := PhiV m c t.val (Nat.le_of_lt_succ t.isLt)
  q _ := fullShare
  owed _ := 0

theorem vA_eq (c : Dev nD) (w : Fin cfg0.W) : (vdats m 0 c).A w = V m c (Pipeline.arrRef spec0 w) := by
  dsimp only [vdats]
theorem PhiV_castSucc (c : Dev nD) (t : Fin cfg0.N) :
    (vdats m 0 c).Φ t.castSucc = PhiV m c t.val (Nat.le_of_lt t.isLt) := by
  dsimp only [vdats]; exact Pipeline.Dat.Φ_castSucc (PhiV m c) t

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = x3b m c t := by dsimp only [vdats]
theorem vafter_4 (c : Dev nD) (t : Fin cfg0.N) : (vdats m 0 c).after 4 t = colBlk (accN m c t.val t.isLt) := by dsimp only [vdats]
theorem vafter_5 (c : Dev nD) (t : Fin cfg0.N) : (vdats m 0 c).after 5 t = codeV m c t := by dsimp only [vdats]
theorem vafter_6 (c : Dev nD) (t : Fin cfg0.N) : (vdats m 0 c).after 6 t = scaleV m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) :
    (vdats m 0 c).before 3 t d = win0_3.fill (grid0.coords t) d (iblk m c 3 t) :=
  before0_3_of m (vdats m 0 c) (vA_eq m c 3) (vafter_3 m c) t d

/-! ## The body obligation -/

/-- What the body is called with at point `t`, -/
def vbodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d)))

/-- and what it returns. -/
def vbodyPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ (∃ d, owns (c : Thread nD τ) (ms0_3 t) fullShare (win0_3.fill (grid0.coords t) d (win0_3.cut (grid0.coords t) ((vdats m 0 c).after 3 t))))
    ∗ (vdats m 0 c).leaves 4 t
    ∗ owns (c : Thread nD τ) (ms0_5 t) fullShare ((vdats m 0 c).after 5 t)
    ∗ owns (c : Thread nD τ) (ms0_6 t) fullShare ((vdats m 0 c).after 6 t))

theorem idle_4 (t : Fin cfg0.N) (h : t.val ≠ 227) : cfg0.idle 4 (cfg0.grid.coords t) = true := by
  show (!(k0_cond2 (grid0.coords t) == 1#1)) = true
  rw [Bool.not_eq_true', beq_eq_false_iff_ne]; exact fun e => h ((last_iff t).mp e)
theorem live_4 (t : Fin cfg0.N) (h : t.val = 227) : cfg0.idle 4 (cfg0.grid.coords t) = false := by
  show (!(k0_cond2 (grid0.coords t) == 1#1)) = false
  rw [Bool.not_eq_false', beq_iff_eq]; exact (last_iff t).mpr h
theorem noflush_4 (t : Fin cfg0.N) (h : t.val ≠ 227) : (cfg0.win 4).flush t = false := by
  have ht : t.val < 228 := lt_of_lt_of_eq t.isLt N_0
  rw [Bool.eq_false_iff]; exact fun e => absurd ((flush0_4 t).mp e) (by omega)
theorem leaves_4_idle (c : Dev nD) (t : Fin cfg0.N) (h : t.val ≠ 227) :
    (vdats m 0 c).leaves 4 t = iprop(∃ d, owns (c : Thread nD τ) (ms0_4 t) fullShare ((vdats m 0 c).before 4 t d)) :=
  (vdats m 0 c).leaves_idle 4 t (idle_4 t h) (noflush_4 t h)
theorem leaves_4_last (c : Dev nD) (t : Fin cfg0.N) (h : t.val = 227) :
    (vdats m 0 c).leaves 4 t = owns (c : Thread nD τ) (ms0_4 t) fullShare (colBlk (accN m c t.val t.isLt)) := by
  unfold Dat.leaves; rw [live_4 t h]
  exact congrArg (owns (c : Thread nD τ) (ms0_4 t) fullShare) (vafter_4 m c t)

/-- The body at the first point, -/
theorem vsound_first (c : Dev nD) (t : Fin cfg0.N) (ht : t.val = 0) :
    vbodyPre m c t ⊢ wp Idealize.ShloMosaic.frame (wpE (defs₀ (F := Ideal)) Variants.none c none) Set.univ (bodyAt0 t) (fun _ => vbodyPost m c t) := by
  have hc0 : firstC (grid0.coords t) := (first_iff t).mpr ht
  have hc1 : ¬ k0_cond2 (grid0.coords t) = 1#1 := fun h => absurd ((last_iff t).mp h) (by omega)
  have hacc : accN m c t.val t.isLt = accV m c t acc0 := by
    obtain ⟨k, hk⟩ := t; obtain rfl : k = 0 := ht; rfl
  have hPhi : PhiV m c t.val (Nat.le_of_lt t.isLt) = Pipeline.ΦA spec0 c := by
    exact PhiV_zero m c _ _ ht
  unfold vbodyPre vbodyPost bodyAt0
  rw [vafter_0, vafter_1, vafter_2, vafter_3, vafter_5, vafter_6, show win0_3.cut (grid0.coords t) (x3b m c t) = iblk m c 3 t from win0_3.cut_fill _ _ _]
  rw [leaves_4_idle m c t (by omega)]
  rw [show (vdats m 0 c).owesAt () t.succ = (vdats m 0 c).owesAt () t.castSucc from rfl]
  rw [show (vdats m 0 c).Φ t.succ = PhiV m c (t.val + 1) t.isLt from rfl, PhiV_succ, PhiV_castSucc, hPhi, PhiA0_eq, hacc]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  rw [vbefore_0 m c t d0, vbefore_1 m c t d1, vbefore_2 m c t d2, vbefore_3 m c t d3]
  iapply (body_first c (grid0.coords t) _ _ _ _ _ _ _ _ _ _ _ _ _ _ _ _ _ _ _ _ _ _ _ _ (iblk m c 0 t) (iblk m c 1 t) (iblk m c 2 t)
    (win0_3.fill (grid0.coords t) d3 (iblk m c 3 t)) ((vdats m 0 c).before 4 t d4) hc0 hc1 Set.univ _)
  rw [code_fill, scale_fill, acc_fill]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists d3; iexact H3
  isplitl [H4]; · iexists d4; iexact H4
  isplitl [H5]; · iexact H5
  iexact H6

/-- at a point between, -/
theorem vsound_middle (c : Dev nD) (n : ℕ) (hn : n < cfg0.N) (t : Fin cfg0.N) (ht : t.val = n + 1) (hl : t.val ≠ 227) :
    vbodyPre m c t ⊢ wp Idealize.ShloMosaic.frame (wpE (defs₀ (F := Ideal)) Variants.none c none) Set.univ (bodyAt0 t) (fun _ => vbodyPost m c t) := by
  have hc0 : ¬ firstC (grid0.coords t) := fun h => absurd ((first_iff t).mp h) (by omega)
  have hc1 : ¬ k0_cond2 (grid0.coords t) = 1#1 := fun h => absurd ((last_iff t).mp h) (by omega)
  have hacc : accN m c t.val t.isLt = accV m c t (accN m c n hn) := by
    obtain ⟨k, hk⟩ := t; obtain rfl : k = n + 1 := ht; rfl
  have hPhi : PhiV m c t.val (Nat.le_of_lt t.isLt) = PhiV m c (n + 1) hn := by
    congr 1
  unfold vbodyPre vbodyPost bodyAt0
  rw [vafter_0, vafter_1, vafter_2, vafter_3, vafter_5, vafter_6, show win0_3.cut (grid0.coords t) (x3b m c t) = iblk m c 3 t from win0_3.cut_fill _ _ _]
  rw [leaves_4_idle m c t hl]
  rw [show (vdats m 0 c).owesAt () t.succ = (vdats m 0 c).owesAt () t.castSucc from rfl]
  rw [show (vdats m 0 c).Φ t.succ = PhiV m c (t.val + 1) t.isLt from rfl, PhiV_succ, PhiV_castSucc, hPhi, PhiV_succ, hacc]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  rw [vbefore_0 m c t d0, vbefore_1 m c t d1, vbefore_2 m c t d2, vbefore_3 m c t d3]
  iapply (body_middle c (grid0.coords t) _ _ _ _ _ _ _ _ _ _ _ _ _ _ _ _ _ _ _ _ _ _ _ _ (iblk m c 0 t) (iblk m c 1 t) (iblk m c 2 t)
    (win0_3.fill (grid0.coords t) d3 (iblk m c 3 t)) (accN m c n hn) ((vdats m 0 c).before 4 t d4) hc0 hc1 Set.univ _)
  rw [code_fill, scale_fill, acc_fill]
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists d3; iexact H3
  isplitl [H4]; · iexists d4; iexact H4
  isplitl [H5]; · iexact H5
  iexact H6

/-- at the last, -/
theorem vsound_last (c : Dev nD) (n : ℕ) (hn : n < cfg0.N) (t : Fin cfg0.N) (ht : t.val = n + 1) (hl : t.val = 227) :
    vbodyPre m c t ⊢ wp Idealize.ShloMosaic.frame (wpE (defs₀ (F := Ideal)) Variants.none c none) Set.univ (bodyAt0 t) (fun _ => vbodyPost m c t) := by
  have hc0 : ¬ firstC (grid0.coords t) := fun h => absurd ((first_iff t).mp h) (by omega)
  have hc1 : k0_cond2 (grid0.coords t) = 1#1 := (last_iff t).mpr hl
  have hacc : accN m c t.val t.isLt = accV m c t (accN m c n hn) := by
    obtain ⟨k, hk⟩ := t; obtain rfl : k = n + 1 := ht; rfl
  have hPhi : PhiV m c t.val (Nat.le_of_lt t.isLt) = PhiV m c (n + 1) hn := by
    congr 1
  unfold vbodyPre vbodyPost bodyAt0
  rw [vafter_0, vafter_1, vafter_2, vafter_3, vafter_5, vafter_6, show win0_3.cut (grid0.coords t) (x3b m c t) = iblk m c 3 t from win0_3.cut_fill _ _ _]
  rw [leaves_4_last m c t hl]
  rw [show (vdats m 0 c).owesAt () t.succ = (vdats m 0 c).owesAt () t.castSucc from rfl]
  rw [show (vdats m 0 c).Φ t.succ = PhiV m c (t.val + 1) t.isLt from rfl, PhiV_succ, PhiV_castSucc, hPhi, PhiV_succ, hacc]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  rw [vbefore_0 m c t d0, vbefore_1 m c t d1, vbefore_2 m c t d2, vbefore_3 m c t d3]
  iapply (body_last c (grid0.coords t) _ _ _ _ _ _ _ _ _ _ _ _ _ _ _ _ _ _ _ _ _ _ _ _ (iblk m c 0 t) (iblk m c 1 t) (iblk m c 2 t)
    (win0_3.fill (grid0.coords t) d3 (iblk m c 3 t)) (accN m c n hn) hc0 hc1 Set.univ _)
  rw [code_fill, scale_fill, acc_fill]
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]
  · iexists d3; iexact H3
  isplitl [H4]; · iexact H4
  isplitl [H5]; · iexact H5
  iexact H6

/-- and at any point. -/
theorem vsound_body (c : Dev nD) (t : Fin cfg0.N) :
    vbodyPre m c t ⊢ wp Idealize.ShloMosaic.frame (wpE (defs₀ (F := Ideal)) Variants.none c none) Set.univ (bodyAt0 t) (fun _ => vbodyPost m c t) := by
  by_cases h0 : t.val = 0
  · exact vsound_first m c t h0
  · have hp : t.val = (t.val - 1) + 1 := by omega
    by_cases hl : t.val = 227
    · exact vsound_last m c (t.val - 1) (by have := t.isLt; omega) t hp hl
    · exact vsound_middle m c (t.val - 1) (by have := t.isLt; omega) t hp hl

theorem vbody_obligation (c : Dev nD) : BodyObligationLoose (vdats m 0 c) (defs₀ (F := Ideal)) Variants.none () Set.univ := fun t => by
  rw [bigSep_W0, bigSep_W0, defs₀_row]
  exact triple_restated (vsound_body m c t) rfl .rfl fun _ => .rfl

theorem Phi_in (c : Dev nD) : (Pipeline.ΦA spec0 c : sProp 𝕄) ⊢ (vdats m 0 c).Φ 0 := .rfl

theorem Phi_out (c : Dev nD) : (vdats m 0 c).Φ (Fin.last cfg0.N) ⊢ (Pipeline.ΦA spec0 c : sProp 𝕄) := by
  have e : (vdats m 0 c).Φ (Fin.last cfg0.N) = PhiV m c (227 + 1) (le_of_eq N_0.symm) := by
    show PhiV m c cfg0.N _ = _
    congr 1
  rw [e, PhiV_succ, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexact HS3
    iexists _; iexact HS4
  iexact Hg

set_option backward.isDefEq.respectTransparency.types false in
/-- Every fair execution ends with each array at what the points' write-backs make of it. -/
theorem run_values : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => vbody_obligation m c) (hshare := fun c => (vdats m 0 c).share_full fun _ => rfl)
    (howed := fun _ _ => rfl) (V := V m) (hmain := hmain m Variants.none) (hA := vA_eq m) (hin := fun c => Phi_in m c) (hout := fun c => Phi_out m c)

end Cert.KernelIdeal.Gen

end
-- ==== Proof.Results.lean ====
module

public import proofs.«01_k».proof.Proof.KernelIdealValue

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## The result arrays, index by index -/

/-- Row `(b, n)` of the first argument, of the second, `gamma`, and the row's `rstd`, as the region finds them. -/
def xRow (c : Dev nD) (b : Fin 57) (n : Fin 1024) : Fin 256 → Fin 4096 → Ideal .bf16 := fun _ j => V m c main_arg0 (ix3 b n j)
def dyRow (c : Dev nD) (b : Fin 57) (n : Fin 1024) : Fin 256 → Fin 4096 → Ideal .bf16 := fun _ j => V m c main_arg1 (ix3 b n j)
def gRow (c : Dev nD) : Fin 4096 → Ideal .f32 := fun j => V m c main_v0 (ix2 0 j)
def rRow (c : Dev nD) (b : Fin 57) (n : Fin 1024) : Fin 256 → Ideal .f32 := fun _ => V m c main_arg3 (ix2 b n)

/-- The codes of row `(b, n)`, and its scale. -/
def codeAt (c : Dev nD) (b : Fin 57) (n : Fin 1024) (j : Fin 4096) : Ideal .fp8e5m2 :=
  rowCode (xRow m c b n) (dyRow m c b n) (gRow m c) (rRow m c b n) 0 j
def scaleAt (c : Dev nD) (b : Fin 57) (n : Fin 1024) : Ideal .f32 :=
  rowScale (xRow m c b n) (dyRow m c b n) (gRow m c) (rRow m c b n) 0

theorem x3b_row (c : Dev nD) (t : Fin cfg0.N) : rvOf (grid0.coords t) (x3b m c t)
    = fun r => V m c main_arg3 (ix2 (batchAt (grid0.coords t)) (rowAt (grid0.coords t) r)) :=
  funext fun r => rstd_block m c t _ r

theorem codeV_at (c : Dev nD) (t : Fin cfg0.N) (r : Fin 256) (j : Fin 4096) :
    codeV m c t (ix3 0 r j) = codeAt m c (batchAt (grid0.coords t)) (rowAt (grid0.coords t) r) j := by
  have hx := funext fun r => funext fun j => x_block m c t r j
  have hdy := funext fun r => funext fun j => dy_block m c t r j
  have hg := funext fun j => gamma_block m c t j
  show rowCode (xv (iblk m c 0 t)) (xv (iblk m c 1 t)) (gv (iblk m c 2 t)) (rvOf (grid0.coords t) (x3b m c t)) r j = _
  rw [hx, hdy, hg, x3b_row]
  rfl
theorem scaleV_at (c : Dev nD) (t : Fin cfg0.N) (r : Fin 256) :
    scaleV m c t (ix3 0 0 r) = scaleAt m c (batchAt (grid0.coords t)) (rowAt (grid0.coords t) r) := by
  have hx := funext fun r => funext fun j => x_block m c t r j
  have hdy := funext fun r => funext fun j => dy_block m c t r j
  have hg := funext fun j => gamma_block m c t j
  show rowScale (xv (iblk m c 0 t)) (xv (iblk m c 1 t)) (gv (iblk m c 2 t)) (rvOf (grid0.coords t) (x3b m c t)) r = _
  rw [hx, hdy, hg, x3b_row]
  rfl

/-- The grid point that row `(b, n)` belongs to. -/
def pointOf (b : Fin 57) (n : Fin 1024) : Fin cfg0.N :=
  ⟨4 * b.val + n.val / 256, lt_of_lt_of_eq (by omega : 4 * b.val + n.val / 256 < 228) N_0.symm⟩
theorem pointOf_batch (b : Fin 57) (n : Fin 1024) : batchAt (grid0.coords (pointOf b n)) = b := by
  refine Fin.ext ((coords_0 (pointOf b n)).trans ?_)
  show (4 * b.val + n.val / 256) / 4 = b.val
  omega
theorem pointOf_row (b : Fin 57) (n : Fin 1024) : rowAt (grid0.coords (pointOf b n)) ⟨n.val % 256, by omega⟩ = n := by
  refine Fin.ext ?_
  show 256 * (grid0.coords (pointOf b n) 1).val + n.val % 256 = n.val
  rw [coords_1]
  show 256 * ((4 * b.val + n.val / 256) % 4) + n.val % 256 = n.val
  omega

theorem code_emb (t : Fin cfg0.N) (r : Fin 256) (j : Fin 4096) :
    (((cfg0.win 5).blk t).view.emb (ix3 0 r j : S1x256x4096.Idx) : S57x1024x4096.Idx)
      = ix3 (batchAt (grid0.coords t)) (rowAt (grid0.coords t) r) j := by
  refine funext fun a => Fin.ext ?_
  refine (Window.rect_emb_val win0_5 t (ix3 0 r j) a).trans ?_
  rw [show win0_5.index t = _ from transform_5_val (grid0.coords t)]
  match a with
  | 0 => show (grid0.coords t 0).val * 1 + 0 = (grid0.coords t 0).val; omega
  | 1 => show (grid0.coords t 1).val * 256 + r.val = 256 * (grid0.coords t 1).val + r.val; omega
  | 2 => show 0 * 4096 + j.val = j.val; omega
theorem scale_emb (t : Fin cfg0.N) (r : Fin 256) :
    (((cfg0.win 6).blk t).view.emb (ix3 0 0 r : S1x1x256.Idx) : S57x1x1024.Idx)
      = ix3 (batchAt (grid0.coords t)) 0 (rowAt (grid0.coords t) r) := by
  refine funext fun a => Fin.ext ?_
  refine (Window.rect_emb_val win0_6 t (ix3 0 0 r) a).trans ?_
  rw [show win0_6.index t = _ from transform_6_val (grid0.coords t)]
  match a with
  | 0 => show (grid0.coords t 0).val * 1 + 0 = (grid0.coords t 0).val; omega
  | 1 => rfl
  | 2 => show (grid0.coords t 1).val * 256 + r.val = 256 * (grid0.coords t 1).val + r.val; omega

theorem code_mem (b : Fin 57) (n : Fin 1024) (j : Fin 4096) :
    (ix3 b n j : S57x1024x4096.Idx) ∈ ((cfg0.win 5).blk (pointOf b n)).view.set := by
  have h := ((cfg0.win 5).blk (pointOf b n)).view.emb_mem_set (ix3 0 ⟨n.val % 256, by omega⟩ j : S1x256x4096.Idx)
  have e := code_emb (pointOf b n) ⟨n.val % 256, by omega⟩ j
  rw [pointOf_batch, pointOf_row] at e
  exact e ▸ h
theorem scale_mem (b : Fin 57) (n : Fin 1024) :
    (ix3 b 0 n : S57x1x1024.Idx) ∈ ((cfg0.win 6).blk (pointOf b n)).view.set := by
  have h := ((cfg0.win 6).blk (pointOf b n)).view.emb_mem_set (ix3 0 0 ⟨n.val % 256, by omega⟩ : S1x1x256.Idx)
  have e := scale_emb (pointOf b n) ⟨n.val % 256, by omega⟩
  rw [pointOf_batch, pointOf_row] at e
  exact e ▸ h

/-- The codes the run ends with. -/
theorem codes_final (c : Dev nD) :
    (vdats m 0 c).arrAt 5 cfg0.N = (fun y : S57x1024x4096.Idx => codeAt m c (y 0) (y 1) (y 2)) := by
  refine (vdats m 0 c).arrAt_eq_of_cover 5 (fun y : S57x1024x4096.Idx => codeAt m c (y 0) (y 1) (y 2)) ?_ ?_
  · intro t _
    funext y
    obtain ⟨o, r, j, rfl⟩ : ∃ o r j, y = (ix3 o r j : S1x256x4096.Idx) := ⟨y 0, y 1, y 2, eq_ix3 y⟩
    obtain rfl : o = 0 := Subsingleton.elim _ _
    refine Eq.trans ?_ (congrArg (fun y : S57x1024x4096.Idx => codeAt m c (y 0) (y 1) (y 2)) (code_emb t r j)).symm
    refine (congrFun (vafter_5 m c t) (ix3 0 r j)).trans ?_
    exact codeV_at m c t r j
  · intro y
    obtain ⟨b, n, j, rfl⟩ : ∃ b n j, y = (ix3 b n j : S57x1024x4096.Idx) := ⟨y 0, y 1, y 2, eq_ix3 y⟩
    exact ⟨pointOf b n, flush0_5 _, code_mem b n j⟩

/-- The scales the run ends with. -/
theorem scales_final (c : Dev nD) :
    (vdats m 0 c).arrAt 6 cfg0.N = (fun y : S57x1x1024.Idx => scaleAt m c (y 0) (y 2)) := by
  refine (vdats m 0 c).arrAt_eq_of_cover 6 (fun y : S57x1x1024.Idx => scaleAt m c (y 0) (y 2)) ?_ ?_
  · intro t _
    funext y
    obtain ⟨o, p, r, rfl⟩ : ∃ o p r, y = (ix3 o p r : S1x1x256.Idx) := ⟨y 0, y 1, y 2, eq_ix3 y⟩
    obtain rfl : o = 0 := Subsingleton.elim _ _
    obtain rfl : p = 0 := Subsingleton.elim _ _
    refine Eq.trans ?_ (congrArg (fun y : S57x1x1024.Idx => scaleAt m c (y 0) (y 2)) (scale_emb t r)).symm
    refine (congrFun (vafter_6 m c t) (ix3 0 0 r)).trans ?_
    exact scaleV_at m c t r
  · intro y
    obtain ⟨b, o, n, rfl⟩ : ∃ b o n, y = (ix3 b o n : S57x1x1024.Idx) := ⟨y 0, y 1, y 2, eq_ix3 y⟩
    obtain rfl : o = 0 := Subsingleton.elim _ _
    exact ⟨pointOf b n, flush0_6 _, scale_mem b n⟩

/-- The first result the run ends with: the column sums of the accumulator after the last point. -/
theorem dgamma_final (c : Dev nD) :
    (vdats m 0 c).arrAt 4 cfg0.N = colBlk (accN m c 227 (lt_of_lt_of_eq (by omega : 227 < 228) N_0.symm)) := by
  have emb : ∀ (t : Fin cfg0.N) (y : S1x4096.Idx), (((cfg0.win 4).blk t).view.emb y : S1x4096.Idx) = y := fun t y => by
    refine funext fun a => Fin.ext ?_
    refine (Window.rect_emb_val win0_4 t y a).trans ?_
    rw [show win0_4.index t = ![0, 0] from rfl]
    match a with
    | 0 => show 0 * 1 + (y 0).val = (y 0).val; omega
    | 1 => show 0 * 4096 + (y 1).val = (y 1).val; omega
  refine (vdats m 0 c).arrAt_eq_of_cover 4 _ ?_ ?_
  · intro t hf
    have ht : t.val < 228 := lt_of_lt_of_eq t.isLt N_0
    have hl : t.val = 227 := by have := (flush0_4 t).mp hf; omega
    obtain ⟨k, hk⟩ := t
    obtain rfl : k = 227 := hl
    funext y
    refine (congrFun (vafter_4 m c _) y).trans ?_
    exact (congrArg (colBlk (accN m c 227 hk)) (emb ⟨227, hk⟩ y)).symm
  · intro y
    have hk : 227 < cfg0.N := lt_of_lt_of_eq (by omega : 227 < 228) N_0.symm
    refine ⟨⟨227, hk⟩, (flush0_4 _).mpr rfl, ?_⟩
    have h := ((cfg0.win 4).blk ⟨227, hk⟩).view.emb_mem_set y
    rw [emb] at h
    exact h

end Cert.KernelIdeal.Gen

end
-- ==== Proof.RefMath.lean ====
module

public import Idealize.ShloMosaic.Lib.Pointwise
public import Idealize.ShloMosaic.Lib.IdealHost

@[expose] public section

noncomputable section

/-! # What the reference computes on one row

The row's mean, its gradient, its largest magnitude, the exponent of that, and the power of two, as functions on the
extended reals in the reference's own terms. -/

namespace Cert.RefMath

open Idealize.ShloMosaic

section
variable (x dy g : Fin 4096 → EReal) (r : EReal)

/-- The row's mean of `dy * gamma * xhat`. -/
def refMean : EReal := Ideal.div (∑ j, dy j * g j * (x j * r)) (Ideal.ofBits .f32 0x45800000#32)
/-- The row's gradient. -/
def refDx (j : Fin 4096) : EReal := r * (dy j * g j - x j * r * refMean x dy g r)
/-- Its largest magnitude. -/
def refTop : EReal := (Finset.univ : Finset (Fin 4096)).fold max (Ideal.ofBits .f32 0xFF800000#32) fun j => max (refDx x dy g r j) (-refDx x dy g r j)
end

/-- The exponent of a positive number by logarithm. -/
def logExp (v : EReal) : EReal :=
  Ideal.liftRound Int.floor (Ideal.div (Ideal.log v) (Ideal.log (Ideal.ofBits .f32 0x40000000#32))) + 1
/-- The exponent of a float32: 0 for those below the normal range and for infinity. -/
def frexpE (v : EReal) : EReal :=
  if Ideal.ofBits .f32 0xC2FA0000#32 ≤ logExp v ∧ v < Ideal.ofBits .f32 0x7F800000#32 then min (logExp v) (Ideal.ofBits .f32 0x43000000#32) else Ideal.ofBits .f32 0x00000000#32
/-- The exponent of the scale of a row whose largest magnitude is `a`. -/
def refExp (a : EReal) : EReal := if a = 0 then Ideal.ofBits .f32 0x00000000#32 else frexpE (a * Ideal.ofBits .f32 0x37924925#32)
/-- Two to the power `e` in float32's range. -/
def ldexp1 (e : EReal) : EReal :=
  if e < Ideal.ofBits .f32 0xC2FC0000#32 then Ideal.ofBits .f32 0x00000000#32
  else if Ideal.ofBits .f32 0x42FE0000#32 < e then Ideal.ofBits .f32 0x7F800000#32
  else Ideal.pow (Ideal.ofBits .f32 0x40000000#32) e

section
variable (x dy g : Fin 4096 → EReal) (r : EReal)

/-- The row's scale. -/
def refScale : EReal := ldexp1 (refExp (refTop x dy g r))
/-- The row's codes. -/
def refCode (j : Fin 4096) : EReal :=
  min (Ideal.ofBits .f32 0x47600000#32) (max (Ideal.ofBits .f32 0xC7600000#32) (refDx x dy g r j * ldexp1 (-refExp (refTop x dy g r))))
end

end Cert.RefMath

end
-- ==== Proof.Sums.lean ====
module

public import proofs.«01_k».proof.Proof.Payloads
public import proofs.«01_k».proof.Proof.RefMath

@[expose] public section

set_option maxRecDepth 8192

noncomputable section

/-! # Sums and maxima by lanes and by bands

The kernel sums a row lane by lane and the lanes afterwards, takes its maximum in the same order, and sums a column by
the rows of each residue modulo 8. Each is the plain sum or the plain maximum. -/

namespace Cert.Sums

open Idealize.ShloMosaic
open Cert.KernelIdeal.Gen

theorem cols_nodup : cols.Nodup := by decide
theorem cols_univ : cols.toFinset = Finset.univ := Finset.eq_univ_iff_forall.mpr fun q => List.mem_toFinset.mpr (mem_cols q)

theorem foldr_sum (g : Fin 32 → EReal) : ∀ L : List (Fin 32), L.foldr (fun q a => a + g q) 0 = (L.map g).sum
  | [] => rfl
  | q :: L => by rw [List.foldr_cons, foldr_sum g L, List.map_cons, List.sum_cons, add_comm]

theorem laneSum_eq (p : Fin 4096 → EReal) (l : Fin 128) : laneSum p l = ∑ q : Fin 32, p (col q l) := by
  unfold laneSum
  rw [foldr_sum fun q => p (col q l), ← List.sum_toFinset _ cols_nodup, cols_univ]

/-- The lanes' sums add up to the row's sum. -/
theorem lanes_sum (p : Fin 4096 → EReal) : ∑ l : Fin 128, laneSum p l = ∑ j, p j := by
  simp only [laneSum_eq]
  rw [← Fintype.sum_prod_type' fun (l : Fin 128) (q : Fin 32) => p (col q l)]
  refine Finset.sum_nbij' (fun k => col k.2 k.1) (fun j => (lane j, tile j)) ?_ ?_ ?_ ?_ ?_
  · intro k _; exact Finset.mem_univ _
  · intro j _; exact Finset.mem_univ _
  · intro k _; exact Prod.ext (lane_col k.2 k.1) (tile_col k.2 k.1)
  · intro j _; exact col_tile_lane j
  · intro k _; rfl

theorem mag_abs (x : EReal) : mag x = (x.abs : EReal) := by
  unfold mag
  induction x with
  | bot => simp
  | top => simp
  | coe x =>
    rw [EReal.coe_abs, ← EReal.coe_neg]
    rcases le_total x (-x) with h | h
    · rw [max_eq_right (EReal.coe_le_coe_iff.mpr h)]
      exact congrArg Real.toEReal (abs_of_nonpos (by linarith)).symm
    · rw [max_eq_left (EReal.coe_le_coe_iff.mpr h)]
      exact congrArg Real.toEReal (abs_of_nonneg (by linarith)).symm

theorem mag_nonneg (x : EReal) : 0 ≤ mag x := by rw [mag_abs]; exact EReal.coe_ennreal_nonneg _
theorem mag_mul (x y : EReal) : mag (x * y) = mag x * mag y := by
  rw [mag_abs, mag_abs, mag_abs, EReal.abs_mul, EReal.coe_ennreal_mul]

theorem foldr_max (g : Fin 32 → EReal) (c : EReal) : ∀ L : List (Fin 32),
    L.foldr (fun q a => max a (g q)) 0 ≤ c ↔ 0 ≤ c ∧ ∀ q ∈ L, g q ≤ c
  | [] => by simp
  | q :: L => by
    rw [List.foldr_cons, max_le_iff, foldr_max g c L]
    simp only [List.mem_cons, forall_eq_or_imp]
    tauto

/-- The lanes' maxima together are the row's maximum. -/
theorem tops_le (u : Fin 4096 → EReal) (c : EReal) : rowTop (fun l => laneTop u l) ≤ c ↔ 0 ≤ c ∧ ∀ j, mag (u j) ≤ c := by
  unfold rowTop
  rw [Finset.fold_max_le]
  have hb : Ideal.ofBits .f32 0xFF800000#32 = ⊥ := by simp [Ideal.ofBits, Ideal.ieee]
  rw [hb]
  simp only [bot_le, true_and, Finset.mem_univ, forall_true_left]
  unfold laneTop
  constructor
  · intro h
    refine ⟨((foldr_max _ c cols).mp (h 0)).1, fun j => ?_⟩
    have := ((foldr_max _ c cols).mp (h (lane j))).2 (tile j) (mem_cols _)
    rwa [col_tile_lane] at this
  · intro h l
    exact (foldr_max _ c cols).mpr ⟨h.1, fun q _ => h.2 _⟩

/-- The kernel's maximum, with the row's factor taken out, is the maximum with it. -/
theorem tops_mul (u : Fin 4096 → EReal) (r : EReal) :
    rowTop (fun l => laneTop u l) * mag r = (Finset.univ : Finset (Fin 4096)).fold max (Ideal.ofBits .f32 0xFF800000#32) fun j => max (r * u j) (-(r * u j)) := by
  obtain ⟨j0, h0⟩ := Finite.exists_max fun j => mag (u j)
  have h1 : rowTop (fun l => laneTop u l) = mag (u j0) := by
    refine le_antisymm ((tops_le u _).mpr ⟨mag_nonneg _, h0⟩) ?_
    exact ((tops_le u _).mp le_rfl).2 j0
  rw [h1, mul_comm, ← mag_mul]
  refine le_antisymm ?_ ?_
  · exact (Finset.le_fold_max _).mpr (Or.inr ⟨j0, Finset.mem_univ _, le_rfl⟩)
  · refine (Finset.fold_max_le _).mpr ⟨?_, fun j _ => ?_⟩
    · have hb : Ideal.ofBits .f32 0xFF800000#32 = ⊥ := by simp [Ideal.ofBits, Ideal.ieee]
      rw [hb]; exact bot_le
    · show mag (r * u j) ≤ _
      rw [mag_mul, mag_mul]
      exact mul_le_mul_of_nonneg_left (h0 j) (mag_nonneg r)

theorem tops_nonneg (u : Fin 4096 → EReal) (r : EReal) : 0 ≤ rowTop (fun l => laneTop u l) * mag r :=
  mul_nonneg ((tops_le u _).mp le_rfl).1 (mag_nonneg r)

/-- The bands' sums add up to the column's sum. -/
theorem bands_sum (p : Fin 256 → Fin 4096 → EReal) (j : Fin 4096) : ∑ e : Fin 8, bandSums p 8 e j = ∑ r : Fin 256, p r j := by
  unfold bandSums
  simp only [Finset.sum_range]
  have h : ∀ (e k : Fin 8) (i : Fin 4), rowOr p (32 * k.val + (8 * i.val + e.val)) j = p ⟨32 * k.val + (8 * i.val + e.val), by omega⟩ j := by
    intro e k i; unfold rowOr; rw [dif_pos (by omega)]
  simp only [h]
  have h2 : ∀ e : Fin 8, (∑ k : Fin 8, ∑ i : Fin 4, p ⟨32 * k.val + (8 * i.val + e.val), by omega⟩ j)
      = ∑ k : Fin 8 × Fin 4, p ⟨32 * k.1.val + (8 * k.2.val + e.val), by omega⟩ j := fun e =>
    (Fintype.sum_prod_type' fun (k : Fin 8) (i : Fin 4) => p ⟨32 * k.val + (8 * i.val + e.val), by omega⟩ j).symm
  simp only [h2]
  rw [← Fintype.sum_prod_type' fun (e : Fin 8) (k : Fin 8 × Fin 4) => p ⟨32 * k.1.val + (8 * k.2.val + e.val), by omega⟩ j]
  refine Finset.sum_nbij' (fun k : Fin 8 × Fin 8 × Fin 4 => (⟨32 * k.2.1.val + (8 * k.2.2.val + k.1.val), by omega⟩ : Fin 256))
    (fun r => ((⟨r.val % 8, by omega⟩ : Fin 8), (⟨r.val / 32, by omega⟩ : Fin 8), (⟨r.val % 32 / 8, by omega⟩ : Fin 4))) ?_ ?_ ?_ ?_ ?_
  · intro k _; exact Finset.mem_univ _
  · intro r _; exact Finset.mem_univ _
  · rintro ⟨e, k, i⟩ _
    refine Prod.ext (Fin.ext ?_) (Prod.ext (Fin.ext ?_) (Fin.ext ?_))
    · show (32 * k.val + (8 * i.val + e.val)) % 8 = e.val; omega
    · show (32 * k.val + (8 * i.val + e.val)) / 32 = k.val; omega
    · show (32 * k.val + (8 * i.val + e.val)) % 32 / 8 = i.val; omega
  · intro r _
    refine Fin.ext ?_
    show 32 * (r.val / 32) + (8 * (r.val % 32 / 8) + r.val % 8) = r.val
    omega
  · intro k _; rfl

/-- The reference's division by 4096 is the kernel's product with its reciprocal. -/
theorem div_4096 (x : EReal) : Ideal.div x (Ideal.ofBits .f32 0x45800000#32) = x * Ideal.ofBits .f32 0x39800000#32 := by
  have h1 : Ideal.ofBits .f32 0x45800000#32 = ((4096 : ℝ) : EReal) := by
    simp [Ideal.ofBits, Ideal.ieee, -EReal.coe_mul, -EReal.coe_neg]; norm_num
  have h2 : Ideal.ofBits .f32 0x39800000#32 = (((4096 : ℝ)⁻¹ : ℝ) : EReal) := by
    simp [Ideal.ofBits, Ideal.ieee, -EReal.coe_mul, -EReal.coe_neg]; norm_num
  rw [h1, h2]
  unfold Ideal.div
  rw [if_neg (by exact_mod_cast (by norm_num : (4096 : ℝ) ≠ 0)), EReal.coe_inv]

end Cert.Sums

end
-- ==== Proof.Exponents.lean ====
module

public import proofs.«01_k».proof.Proof.Powers
public import proofs.«01_k».proof.Proof.RefMath

@[expose] public section

noncomputable section

/-! # The two ways to find an exponent agree

The kernel searches for the exponent field; the reference takes the floor of a logarithm. For every value that is not
negative, infinity among them, the two give the same exponent, and the kernel's power of two by bits is the reference's
power. -/

namespace Cert.Exponents

open Idealize.ShloMosaic
open Cert.Powers Cert.RefMath

theorem bits_two : Ideal.ofBits .f32 0x40000000#32 = ((2 : ℝ) : EReal) := by
  simp [Ideal.ofBits, Ideal.ieee, -EReal.coe_mul, -EReal.coe_neg]; norm_num
theorem bits_m125 : Ideal.ofBits .f32 0xC2FA0000#32 = ((-125 : ℝ) : EReal) := by
  simp [Ideal.ofBits, Ideal.ieee, -EReal.coe_mul, -EReal.coe_neg]; norm_num
theorem bits_m126 : Ideal.ofBits .f32 0xC2FC0000#32 = ((-126 : ℝ) : EReal) := by
  simp [Ideal.ofBits, Ideal.ieee, -EReal.coe_mul, -EReal.coe_neg]; norm_num
theorem bits_127 : Ideal.ofBits .f32 0x42FE0000#32 = ((127 : ℝ) : EReal) := by
  simp [Ideal.ofBits, Ideal.ieee, -EReal.coe_mul, -EReal.coe_neg]; norm_num
theorem bits_128 : Ideal.ofBits .f32 0x43000000#32 = ((128 : ℝ) : EReal) := by
  simp [Ideal.ofBits, Ideal.ieee, -EReal.coe_mul, -EReal.coe_neg]; norm_num
theorem bits_top : Ideal.ofBits .f32 0x7F800000#32 = ⊤ := by
  simp [Ideal.ofBits, Ideal.ieee]
theorem bits_bot : Ideal.ofBits .f32 0xFF800000#32 = ⊥ := by
  simp [Ideal.ofBits, Ideal.ieee]

/-- An integer as an extended real. -/
def ofI (e : ℤ) : EReal := ((e : ℝ) : EReal)

theorem ofI_le (a b : ℤ) : ofI a ≤ ofI b ↔ a ≤ b := by
  unfold ofI; rw [EReal.coe_le_coe_iff]; exact Int.cast_le
theorem ofI_lt (a b : ℤ) : ofI a < ofI b ↔ a < b := by
  unfold ofI; rw [EReal.coe_lt_coe_iff]; exact Int.cast_lt
theorem ofI_min (a b : ℤ) : min (ofI a) (ofI b) = ofI (min a b) := by
  rcases le_total a b with h | h
  · rw [min_eq_left h, min_eq_left ((ofI_le a b).mpr h)]
  · rw [min_eq_right h, min_eq_right ((ofI_le b a).mpr h)]
theorem ofI_neg (a : ℤ) : -ofI a = ofI (-a) := by
  unfold ofI; rw [Int.cast_neg, EReal.coe_neg]
theorem ofI_zero : ofI 0 = 0 := by unfold ofI; simp

theorem m125_eq : Ideal.ofBits .f32 0xC2FA0000#32 = ofI (-125) := by rw [bits_m125]; unfold ofI; norm_num
theorem m126_eq : Ideal.ofBits .f32 0xC2FC0000#32 = ofI (-126) := by rw [bits_m126]; unfold ofI; norm_num
theorem e127_eq : Ideal.ofBits .f32 0x42FE0000#32 = ofI 127 := by rw [bits_127]; unfold ofI; norm_num
theorem e128_eq : Ideal.ofBits .f32 0x43000000#32 = ofI 128 := by rw [bits_128]; unfold ofI; norm_num

theorem log_two_pos : 0 < Real.log 2 := Real.log_pos (by norm_num)
theorem log_two : Ideal.log (Ideal.ofBits .f32 0x40000000#32) = ((Real.log 2 : ℝ) : EReal) := by
  rw [bits_two]
  show (if (2 : ℝ) ≤ 0 then ⊥ else ((Real.log 2 : ℝ) : EReal)) = _
  rw [if_neg (by norm_num)]

/-- The floor of the logarithm to base 2. -/
def lg (x : ℝ) : ℤ := ⌊Real.log x * (Real.log 2)⁻¹⌋

theorem le_lg (x : ℝ) (hx : 0 < x) (n : ℤ) (h : (2 : ℝ) ^ n ≤ x) : n ≤ lg x := by
  unfold lg
  rw [Int.le_floor, ← div_eq_mul_inv, le_div_iff₀ log_two_pos, ← Real.log_zpow]
  exact Real.log_le_log (zpow_pos (by norm_num) _) h
theorem lg_lt (x : ℝ) (hx : 0 < x) (n : ℤ) (h : x < (2 : ℝ) ^ n) : lg x < n := by
  unfold lg
  rw [Int.floor_lt, ← div_eq_mul_inv, div_lt_iff₀ log_two_pos, ← Real.log_zpow]
  exact Real.log_lt_log hx h

/-- The exponent by logarithm of a positive number. -/
theorem logExp_pos (x : ℝ) (hx : 0 < x) : logExp (x : EReal) = ofI (lg x + 1) := by
  unfold logExp
  rw [log_two]
  have h1 : Ideal.log (x : EReal) = ((Real.log x : ℝ) : EReal) := by
    show (if x ≤ 0 then ⊥ else ((Real.log x : ℝ) : EReal)) = _
    rw [if_neg (not_le.mpr hx)]
  have h2 : Ideal.div ((Real.log x : ℝ) : EReal) ((Real.log 2 : ℝ) : EReal) = ((Real.log x * (Real.log 2)⁻¹ : ℝ) : EReal) := by
    unfold Ideal.div
    rw [if_neg (by exact_mod_cast log_two_pos.ne'), ← EReal.coe_inv, ← EReal.coe_mul]
  rw [h1, h2]
  show ((lg x : ℝ) : EReal) + 1 = _
  unfold ofI
  push_cast
  rfl

/-- The logarithm of 0 is below every number, and so is its exponent. -/
theorem logExp_zero : logExp 0 = ⊥ := by
  unfold logExp
  rw [log_two]
  have h1 : Ideal.log (0 : EReal) = ⊥ := by
    show (if (0 : ℝ) ≤ 0 then ⊥ else ((Real.log 0 : ℝ) : EReal)) = _
    rw [if_pos le_rfl]
  have h2 : Ideal.div ⊥ ((Real.log 2 : ℝ) : EReal) = ⊥ := by
    unfold Ideal.div
    rw [if_neg (by exact_mod_cast log_two_pos.ne'), ← EReal.coe_inv]
    exact EReal.bot_mul_coe_of_pos (inv_pos.mpr log_two_pos)
  rw [h1, h2]
  show (⊥ : EReal) + 1 = ⊥
  exact EReal.bot_add 1

theorem fieldN_top : fieldN ⊤ = 255 := by
  obtain ⟨h1, h2, h3⟩ := fieldN_spec ⊤ le_top
  by_contra h
  exact absurd (h3 (by omega)) (not_lt.mpr le_top)

/-- Both exponents of a value that is not negative. -/
theorem frexp_eq (v : EReal) (hv : 0 ≤ v) : frexpE v = ofI (expI (fieldN v)) := by
  unfold frexpE
  rw [bits_top, m125_eq, e128_eq, Ideal.ofBits_zero_f32]
  induction v with
  | bot => exact absurd hv (not_le.mpr EReal.bot_lt_zero)
  | top =>
    rw [fieldN_top, if_neg (fun h => absurd h.2 (lt_irrefl _))]
    unfold expI
    rw [if_pos (Or.inr rfl), ofI_zero]
  | coe x =>
    have hx : 0 ≤ x := by exact_mod_cast hv
    obtain ⟨h1, h2, h3⟩ := fieldN_spec (x : EReal) hv
    generalize fieldN (x : EReal) = k at h1 h2 h3
    have hk : k ≠ 255 := by
      rintro rfl
      rw [pw_top] at h2
      exact absurd h2 (not_le.mpr (EReal.coe_lt_top x))
    have hlt : (x : EReal) < ⊤ := EReal.coe_lt_top x
    rcases Nat.eq_zero_or_pos k with rfl | hk0
    · have hex : expI 0 = 0 := by unfold expI; rw [if_pos (Or.inl rfl)]
      rw [hex, ofI_zero]
      refine if_neg fun h => ?_
      have h4 := h3 (by omega)
      rw [pw_mid 1 (by omega) (by omega), EReal.coe_lt_coe_iff] at h4
      rcases hx.eq_or_lt with rfl | hx0
      · have h5 := h.1
        rw [EReal.coe_zero, logExp_zero] at h5
        exact absurd h5 (not_le.mpr (EReal.bot_lt_coe _))
      · have h5 := h.1
        rw [logExp_pos x hx0, ofI_le] at h5
        have h6 : lg x < -126 := lg_lt x hx0 _ h4
        omega
    · rw [pw_mid k hk0 (by omega), EReal.coe_le_coe_iff] at h2
      have hx0 : 0 < x := lt_of_lt_of_le (zpow_pos (by norm_num) _) h2
      have h5 : (k : ℤ) - 127 ≤ lg x := le_lg x hx0 _ h2
      have hex : expI k = (k : ℤ) - 126 := by unfold expI; rw [if_neg (by omega)]
      rw [logExp_pos x hx0, hex, if_pos ⟨(ofI_le _ _).mpr (by omega), hlt⟩, ofI_min]
      congr 1
      by_cases h254 : k = 254
      · omega
      · have h4 := h3 (by omega)
        rw [pw_mid (k + 1) (by omega) (by omega), EReal.coe_lt_coe_iff] at h4
        have h6 : lg x < (k : ℤ) - 126 := by
          have h7 : ((k + 1 : ℕ) : ℤ) - 127 = (k : ℤ) - 126 := by push_cast; ring
          rw [h7] at h4
          exact lg_lt x hx0 _ h4
        omega

theorem fieldN_zero : fieldN 0 = 0 := by
  obtain ⟨h1, h2, h3⟩ := fieldN_spec 0 le_rfl
  by_contra h
  have h4 : fieldN 0 = 255 ∨ fieldN 0 < 255 := by omega
  rcases h4 with h4 | h4
  · rw [h4, pw_top] at h2
    exact absurd h2 (not_le.mpr EReal.zero_lt_top)
  · rw [pw_mid _ (by omega) h4] at h2
    have h5 : (2 : ℝ) ^ ((fieldN 0 : ℤ) - 127) ≤ 0 := by exact_mod_cast h2
    exact absurd h5 (not_le.mpr (zpow_pos (by norm_num) _))

/-- The reference's exponent of a row whose largest magnitude is `a`. -/
theorem refExp_eq (a : EReal) (ha : 0 ≤ a * Ideal.ofBits .f32 0x37924925#32) :
    refExp a = ofI (expI (fieldN (a * Ideal.ofBits .f32 0x37924925#32))) := by
  unfold refExp
  by_cases h : a = 0
  · rw [if_pos h, h, zero_mul, fieldN_zero, Ideal.ofBits_zero_f32]
    unfold expI
    rw [if_pos (Or.inl rfl), ofI_zero]
  · rw [if_neg h, frexp_eq _ ha]

/-- The reference's power of two at an integer. -/
theorem ldexp_int (e : ℤ) : ldexp1 (ofI e) = if e < -126 then 0 else if 127 < e then ⊤ else (((2 : ℝ) ^ e : ℝ) : EReal) := by
  unfold ldexp1
  rw [m126_eq, e127_eq, bits_top, Ideal.ofBits_zero_f32, bits_two]
  simp only [ofI_lt]
  congr 2
  show ((Real.rpow 2 (e : ℝ) : ℝ) : EReal) = _
  exact congrArg Real.toEReal (Real.rpow_intCast 2 e)

theorem up_words : ∀ k : Fin 256,
    IntOp.cmpi .sle (IntOp.addi (expB (BitVec.ofNat 32 k.val)) 127#32) 0#32 = 0#1
    ∧ IntOp.cmpi .sge (IntOp.addi (expB (BitVec.ofNat 32 k.val)) 127#32) 255#32 = BitVec.ofBool (decide ((expI k.val + 127).toNat = 255))
    ∧ IntOp.addi (expB (BitVec.ofNat 32 k.val)) 127#32 = BitVec.ofNat 32 (expI k.val + 127).toNat
    ∧ 0 < expI k.val + 127 ∧ expI k.val + 127 < 256 := by decide

theorem down_words : ∀ k : Fin 256,
    IntOp.cmpi .sle (IntOp.addi (IntOp.subi 0#32 (expB (BitVec.ofNat 32 k.val))) 127#32) 0#32 = BitVec.ofBool (decide (127 - expI k.val ≤ 0))
    ∧ IntOp.cmpi .sge (IntOp.addi (IntOp.subi 0#32 (expB (BitVec.ofNat 32 k.val))) 127#32) 255#32 = 0#1
    ∧ (0 < 127 - expI k.val → IntOp.addi (IntOp.subi 0#32 (expB (BitVec.ofNat 32 k.val))) 127#32 = BitVec.ofNat 32 (127 - expI k.val).toNat)
    ∧ 127 - expI k.val < 253 := by decide

/-- The kernel's scale is the reference's power. -/
theorem up_eq (k : ℕ) (h : k < 256) : powB (expB (BitVec.ofNat 32 k)) = ldexp1 (ofI (expI k)) := by
  obtain ⟨h1, h2, h3, h4, h5⟩ := up_words ⟨k, h⟩
  dsimp only at h1 h2 h3 h4 h5
  unfold powB
  rw [h1, h2, h3, ldexp_int, bits_top]
  generalize expI k = e at *
  show Scalar.select 0#1 0 (Scalar.select (BitVec.ofBool (decide ((e + 127).toNat = 255))) ⊤ (pw (e + 127).toNat)) = _
  unfold Scalar.select
  rw [if_neg (by decide), if_neg (by omega : ¬ e < -126)]
  by_cases h6 : (e + 127).toNat = 255
  · rw [if_pos (by omega : 127 < e)]; simp [h6]
  · rw [if_neg (by omega : ¬ 127 < e), pw_mid _ (by omega) (by omega), show (((e + 127).toNat : ℤ) - 127) = e by omega]; simp [h6]

/-- And so is its reciprocal. -/
theorem down_eq (k : ℕ) (h : k < 256) : powB (IntOp.subi 0#32 (expB (BitVec.ofNat 32 k))) = ldexp1 (-ofI (expI k)) := by
  obtain ⟨h1, h2, h3, h4⟩ := down_words ⟨k, h⟩
  dsimp only at h1 h2 h3 h4
  unfold powB
  rw [h1, h2, ofI_neg, ldexp_int, bits_top]
  generalize expI k = e at *
  unfold Scalar.select
  by_cases h6 : 127 - e ≤ 0
  · rw [if_pos (by omega : -e < -126)]; simp [h6]
  · rw [h3 (by omega), if_neg (by omega : ¬ -e < -126), if_neg (by omega : ¬ 127 < -e)]
    have h7 : Ideal.ofBits .f32 (IntOp.shli .vector (BitVec.ofNat 32 (127 - e).toNat) 23#32) = pw (127 - e).toNat := rfl
    rw [h7, pw_mid _ (by omega) (by omega), show (((127 - e).toNat : ℤ) - 127) = -e by omega]; simp [h6]

end Cert.Exponents

end
-- ==== Proof.RowEquation.lean ====
module

public import proofs.«01_k».proof.Proof.Values
public import proofs.«01_k».proof.Proof.Sums
public import proofs.«01_k».proof.Proof.Exponents

@[expose] public section

set_option maxRecDepth 8192

noncomputable section

/-! # The equation on one row

What the kernel computes on a row is what the reference computes on it: the mean, the gradient, the largest magnitude, the
exponent, and so the scale and the codes. -/

namespace Cert.RowEquation

open Idealize.ShloMosaic
open Cert.KernelIdeal.Gen Cert.RefMath Cert.Powers Cert.Exponents Cert.Sums

variable (x dy : Fin 256 → Fin 4096 → EReal) (gam : Fin 4096 → EReal) (rv : Fin 256 → EReal) (r : Fin 256)

theorem mean_eq : rowMean x dy gam rv r = refMean (x r) (dy r) gam (rv r) := by
  unfold rowMean refMean
  rw [div_4096, lanes_sum]

theorem dx_eq (j : Fin 4096) : rv r * rowU x dy gam rv r j = refDx (x r) (dy r) gam (rv r) j := by
  unfold rowU refDx
  rw [mean_eq]

theorem top_eq : rowMax x dy gam rv r * mag (rv r) = refTop (x r) (dy r) gam (rv r) := by
  unfold rowMax refTop
  rw [tops_mul]
  simp only [dx_eq]

theorem const_nonneg : 0 ≤ Ideal.ofBits .f32 0x37924925#32 := by
  have h : Ideal.ofBits .f32 0x37924925#32 = (((9586981 : ℝ) * 2 ^ (-39 : ℤ) : ℝ) : EReal) := by
    simp [Ideal.ofBits, Ideal.ieee, -EReal.coe_mul, -EReal.coe_neg]
  rw [h]
  exact EReal.coe_nonneg.mpr (by positivity)

theorem scaled_nonneg : 0 ≤ refTop (x r) (dy r) gam (rv r) * Ideal.ofBits .f32 0x37924925#32 := by
  rw [← top_eq]
  exact mul_nonneg (tops_nonneg _ _) const_nonneg

/-- The row's scale. -/
theorem scale_eq : rowScale x dy gam rv r = refScale (x r) (dy r) gam (rv r) := by
  unfold rowScale refScale rowExp
  rw [top_eq, fieldB_eq, refExp_eq _ (scaled_nonneg x dy gam rv r)]
  exact up_eq _ (fieldN_spec _ (scaled_nonneg x dy gam rv r)).1

/-- The row's codes. -/
theorem code_eq (j : Fin 4096) : rowCode x dy gam rv r j = refCode (x r) (dy r) gam (rv r) j := by
  unfold rowCode refCode rowExp
  rw [top_eq, fieldB_eq, refExp_eq _ (scaled_nonneg x dy gam rv r), down_eq _ (fieldN_spec _ (scaled_nonneg x dy gam rv r)).1,
    ← dx_eq, min_comm, max_comm, ← mul_assoc, mul_comm (rowU x dy gam rv r j)]

/-- What a block adds to the accumulator's column sums. -/
theorem acc_sum (a : Fin 8 → Fin 4096 → EReal) (j : Fin 4096) :
    ∑ e : Fin 8, accOf x dy rv a e j = (∑ e : Fin 8, a e j) + ∑ r : Fin 256, dy r j * (x r j * rv r) := by
  unfold accOf
  rw [Finset.sum_add_distrib, bands_sum]

end Cert.RowEquation

end
-- ==== Proof.ColumnSum.lean ====
module

public import proofs.«01_k».proof.Proof.Results
public import proofs.«01_k».proof.Proof.RowEquation
public import Idealize.ShloMosaic.Lib.StableHlo.ReadAt

@[expose] public section

set_option maxRecDepth 16384

noncomputable section

/-! # The kernel's results over its arguments

The accumulator's column sums over all grid points, put in the order of the rows, and `gamma` as the region finds it. -/

namespace Cert.KernelIdeal.Gen

open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (c : Dev nD)

/-- The four arguments by their rows. -/
def kX (b : Fin 57) (n : Fin 1024) (j : Fin 4096) : EReal := m ((c : Thread nD τ).loc main_arg0) (ix3 b n j)
def kDy (b : Fin 57) (n : Fin 1024) (j : Fin 4096) : EReal := m ((c : Thread nD τ).loc main_arg1) (ix3 b n j)
def kG (j : Fin 4096) : EReal := m ((c : Thread nD τ).loc main_arg2) (ix1 j)
def kR (b : Fin 57) (n : Fin 1024) : EReal := m ((c : Thread nD τ).loc main_arg3) (ix2 b n)

theorem xRow_eq (b : Fin 57) (n : Fin 1024) : xRow m c b n = fun _ j => kX m c b n j :=
  funext fun _ => funext fun j => congrFun (V_main_arg0 m c) (ix3 b n j)
theorem dyRow_eq (b : Fin 57) (n : Fin 1024) : dyRow m c b n = fun _ j => kDy m c b n j :=
  funext fun _ => funext fun j => congrFun (V_main_arg1 m c) (ix3 b n j)
theorem rRow_eq (b : Fin 57) (n : Fin 1024) : rRow m c b n = fun _ => kR m c b n :=
  funext fun _ => congrFun (V_main_arg3 m c) (ix2 b n)
theorem gamma_read (W : Valuation τ sig (Elt Ideal)) (j : Fin 4096) :
    after (hostOps0 (F := Ideal)) W (Proc.devRef .tc main_v0) (ix2 0 j) = (W (Proc.devRef .tc main_arg2) (ix1 j) : EReal) := by
  after_reads_at
theorem gRow_eq : gRow m c = fun j => kG m c j := funext fun j => gamma_read (fun b => m (c, b)) j

/-- The codes and the scale of a row, over the arguments. -/
theorem code_row (b : Fin 57) (n : Fin 1024) (j : Fin 4096) :
    codeAt m c b n j = RefMath.refCode (kX m c b n) (kDy m c b n) (kG m c) (kR m c b n) j := by
  unfold codeAt
  rw [xRow_eq, dyRow_eq, gRow_eq, rRow_eq]
  exact RowEquation.code_eq _ _ _ _ 0 j
theorem scale_row (b : Fin 57) (n : Fin 1024) :
    scaleAt m c b n = RefMath.refScale (kX m c b n) (kDy m c b n) (kG m c) (kR m c b n) := by
  unfold scaleAt
  rw [xRow_eq, dyRow_eq, gRow_eq, rRow_eq]
  exact RowEquation.scale_eq _ _ _ _ 0

/-- A row's product in a column. -/
def prodAt (b : Fin 57) (n : Fin 1024) (j : Fin 4096) : EReal := kDy m c b n j * (kX m c b n j * kR m c b n)

/-- What a grid point adds to the accumulator's column sums. -/
theorem acc_point (t : Fin cfg0.N) (a : Vec Ideal S8x4096 .f32) (j : Fin 4096) :
    colBlk (accV m c t a) (ix2 0 j)
      = colBlk a (ix2 0 j) + ∑ r : Fin 256, prodAt m c (batchAt (grid0.coords t)) (rowAt (grid0.coords t) r) j := by
  have hx := funext fun r => funext fun j => x_block m c t r j
  have hdy := funext fun r => funext fun j => dy_block m c t r j
  show (∑ e : Fin 8, accOf (xv (iblk m c 0 t)) (xv (iblk m c 1 t)) (rvOf (grid0.coords t) (x3b m c t)) (fun e j => a (ix2 e j)) e j) = _
  rw [RowEquation.acc_sum, hx, hdy, x3b_row, V_main_arg0, V_main_arg1, V_main_arg3]
  rfl

/-- The column sums after point `n`: the products of the rows of the points up to `n`. -/
theorem acc_points (j : Fin 4096) : ∀ (n : ℕ) (h : n < cfg0.N), colBlk (accN m c n h) (ix2 0 j)
    = ∑ t : Fin (n + 1), ∑ r : Fin 256, prodAt m c (batchAt (grid0.coords ⟨t.val, lt_of_lt_of_le t.isLt h⟩)) (rowAt (grid0.coords ⟨t.val, lt_of_lt_of_le t.isLt h⟩) r) j
  | 0, h => by
    refine (acc_point m c ⟨0, h⟩ acc0 j).trans ?_
    have h0 : colBlk acc0 (ix2 0 j) = 0 := by
      show (∑ e : Fin 8, (0 : EReal)) = 0
      exact Finset.sum_const_zero
    rw [h0, zero_add, Fin.sum_univ_one]
    rfl
  | n + 1, h => by
    refine (acc_point m c ⟨n + 1, h⟩ (accN m c n (Nat.lt_of_succ_lt h)) j).trans ?_
    rw [acc_points j n (Nat.lt_of_succ_lt h)]
    exact (Fin.sum_univ_castSucc (fun t : Fin (n + 1 + 1) => ∑ r : Fin 256, prodAt m c (batchAt (grid0.coords ⟨t.val, lt_of_lt_of_le t.isLt h⟩))
      (rowAt (grid0.coords ⟨t.val, lt_of_lt_of_le t.isLt h⟩) r) j)).symm

/-- The sum over the points and their rows is the sum over all rows. -/
theorem points_rows (f : Fin 57 → Fin 1024 → EReal) (h : 227 < cfg0.N) :
    (∑ t : Fin (227 + 1), ∑ r : Fin 256, f (batchAt (grid0.coords ⟨t.val, lt_of_lt_of_le t.isLt h⟩)) (rowAt (grid0.coords ⟨t.val, lt_of_lt_of_le t.isLt h⟩) r))
      = ∑ k : Fin 57 × Fin 1024, f k.1 k.2 := by
  have hb : ∀ t : Fin (227 + 1), batchAt (grid0.coords ⟨t.val, lt_of_lt_of_le t.isLt h⟩) = ⟨t.val / 4, by omega⟩ := fun t =>
    Fin.ext (coords_0 ⟨t.val, lt_of_lt_of_le t.isLt h⟩)
  have hr : ∀ (t : Fin (227 + 1)) (r : Fin 256), rowAt (grid0.coords ⟨t.val, lt_of_lt_of_le t.isLt h⟩) r = ⟨256 * (t.val % 4) + r.val, by omega⟩ := fun t r =>
    Fin.ext (congrArg (fun s => 256 * s + r.val) (coords_1 ⟨t.val, lt_of_lt_of_le t.isLt h⟩))
  simp only [hb, hr]
  rw [← Fintype.sum_prod_type' fun (t : Fin (227 + 1)) (r : Fin 256) => f ⟨t.val / 4, by omega⟩ ⟨256 * (t.val % 4) + r.val, by omega⟩]
  refine Finset.sum_nbij' (fun k => ((⟨k.1.val / 4, by omega⟩ : Fin 57), (⟨256 * (k.1.val % 4) + k.2.val, by omega⟩ : Fin 1024)))
    (fun k => ((⟨4 * k.1.val + k.2.val / 256, by omega⟩ : Fin (227 + 1)), (⟨k.2.val % 256, by omega⟩ : Fin 256))) ?_ ?_ ?_ ?_ ?_
  · intro k _; exact Finset.mem_univ _
  · intro k _; exact Finset.mem_univ _
  · rintro ⟨t, r⟩ _
    refine Prod.ext (Fin.ext ?_) (Fin.ext ?_)
    · show 4 * (t.val / 4) + (256 * (t.val % 4) + r.val) / 256 = t.val; omega
    · show (256 * (t.val % 4) + r.val) % 256 = r.val; omega
  · rintro ⟨b, n⟩ _
    refine Prod.ext (Fin.ext ?_) (Fin.ext ?_)
    · show (4 * b.val + n.val / 256) / 4 = b.val; omega
    · show 256 * ((4 * b.val + n.val / 256) % 4) + n.val % 256 = n.val; omega
  · intro k _; rfl

/-- The kernel's gradient of the gain: the sum of the products over all rows. -/
theorem dgamma_col (h : 227 < cfg0.N) (j : Fin 4096) :
    colBlk (accN m c 227 h) (ix2 0 j) = ∑ k : Fin 57 × Fin 1024, prodAt m c k.1 k.2 j := by
  rw [acc_points]
  exact points_rows (fun b n => prodAt m c b n j) h

end Cert.KernelIdeal.Gen

end
-- ==== Proof.KernelArrays.lean ====
module

public import proofs.«01_k».proof.Proof.ColumnSum

@[expose] public section

set_option maxRecDepth 16384

/-! The kernel's three results as functions of their indices, and its run. -/

noncomputable section

namespace Cert.KernelIdeal.Gen

open Idealize.ShloMosaic Idealize.ShloMosaic.TcCoe
open Idealize.SL Idealize.SL.Sem

variable (m : (ℓ : Loc nD τ sig) → Buf (Elt Ideal) ℓ) (ρ : Dev nD → PrngReg) (c : Dev nD)

abbrev codes : Vec Ideal S57x1024x4096 .fp8e5m2 := fun y =>
  RefMath.refCode (kX m c (y 0) (y 1)) (kDy m c (y 0) (y 1)) (kG m c) (kR m c (y 0) (y 1)) (y 2)
abbrev scales : Vec Ideal S57x1x1024 .f32 := fun y =>
  RefMath.refScale (kX m c (y 0) (y 2)) (kDy m c (y 0) (y 2)) (kG m c) (kR m c (y 0) (y 2))
abbrev dgamma : Vec Ideal S1x4096 .f32 := fun y =>
  (∑ k : Fin 57 × Fin 1024, kDy m c k.1 k.2 (y 1) * (kX m c k.1 k.2 (y 1) * kR m c k.1 k.2) : EReal)

theorem codes_array : (vdats m 0 c).arrAt 5 cfg0.N = codes m c := by
  refine (codes_final m c).trans ?_
  funext y
  obtain ⟨b, n, j, rfl⟩ : ∃ b n j, y = (ix3 b n j : S57x1024x4096.Idx) := ⟨y 0, y 1, y 2, eq_ix3 y⟩
  exact code_row m c b n j
theorem scales_array : (vdats m 0 c).arrAt 6 cfg0.N = scales m c := by
  refine (scales_final m c).trans ?_
  funext y
  obtain ⟨b, o, n, rfl⟩ : ∃ b o n, y = (ix3 b o n : S57x1x1024.Idx) := ⟨y 0, y 1, y 2, eq_ix3 y⟩
  exact scale_row m c b n
theorem dgamma_array : (vdats m 0 c).arrAt 4 cfg0.N = dgamma m c := by
  refine (dgamma_final m c).trans ?_
  funext y
  obtain ⟨o, j, rfl⟩ : ∃ o j, y = (ix2 o j : S1x4096.Idx) := ⟨y 0, y 1, eq_ix2 y⟩
  obtain rfl : o = 0 := Subsingleton.elim _ _
  exact dgamma_col m c _ j

/-- The kernel's run: the three results, the arguments unchanged. -/
theorem run_results : θ_run defs (onTc (τ := τ) (main (F := Ideal))) ⟨m, fun _ => 0, ρ⟩ fun r => ∀ c : Dev nD,
      r.2.mem ((c : Thread nD τ).loc main_v1_0) = dgamma m c
      ∧ r.2.mem ((c : Thread nD τ).loc main_v1_1) = codes m c
      ∧ r.2.mem ((c : Thread nD τ).loc main_v1_2) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).1 4).trans (dgamma_array m c),
      ((h c).1 5).trans (codes_array m c),
      ((h c).1 6).trans (scales_array m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c))),
      ((h c).2 main_arg2 (Pipeline.mem_restRefs_of main_arg2 (by decide) (by decide))).trans (V_main_arg2 m c),
      ((h c).1 3).trans (((vdats m 0 c).arrAt_in 3 rfl _).trans ((vA_eq m c 3).trans (V_main_arg3 m c)))⟩)
    (run_values m ρ)

end Cert.KernelIdeal.Gen

end
-- ==== Proof.RefHost.lean ====
module

public import proofs.«01_k».proof.Proof.RefMath
public import proofs.«01_k».proof.Proof.Gen.ReferenceIdeal.Value
public import Idealize.ShloMosaic.Lib.StableHlo.ReadAt

@[expose] public section

set_option maxRecDepth 16384

/-! What the reference's host operations leave, read index by index over the extended reals: first the gradient and its
products, then the sum over all rows and the magnitudes, then each row's largest magnitude, then the exponent and the power
of two, and last the clamped quotient. Each stage is read from any contents of the buffers before it. -/

noncomputable section

namespace Cert.ReferenceIdeal.Host

open Idealize.ShloMosaic Idealize.ShloMosaic.TcCoe Idealize.ShloMosaic.Tactic Idealize.ShloMosaic.StableHlo
open Idealize.SL Idealize.SL.Sem
open Cert.ReferenceIdeal Cert.ReferenceIdeal.Gen

section
variable {F : FTy → Type} [FloatOps F]

/-- The operations up to the products `dy * xhat`. -/
abbrev part1 : List (HloOp τ sig (Elt F)) :=
  [ StableHlo.unary main_arg3 main_v0 (broadcastInDim S57x1024x1 ![0, 1] bcast_S57x1024_S57x1024x1_0_1 : (⟨S57x1024, .f32⟩ : BufTy).Contents (Elt F) → (⟨S57x1024x1, .f32⟩ : BufTy).Contents (Elt F)),
    StableHlo.unary main_arg0 main_v1 ((extf .f32 · bitsLt_bf16_f32) : (⟨S57x1024x4096, .bf16⟩ : BufTy).Contents (Elt F) → (⟨S57x1024x4096, .f32⟩ : BufTy).Contents (Elt F)),
    StableHlo.unary main_v0 main_v2 (broadcastInDim S57x1024x4096 ![0, 1, 2] bcast_S57x1024x1_S57x1024x4096_0_1_2 : (⟨S57x1024x1, .f32⟩ : BufTy).Contents (Elt F) → (⟨S57x1024x4096, .f32⟩ : BufTy).Contents (Elt F)),
    StableHlo.binary main_v1 main_v2 main_v3 (mulf : (⟨S57x1024x4096, .f32⟩ : BufTy).Contents (Elt F) → (⟨S57x1024x4096, .f32⟩ : BufTy).Contents (Elt F) → (⟨S57x1024x4096, .f32⟩ : BufTy).Contents (Elt F)),
    StableHlo.unary main_arg1 main_v4 ((extf .f32 · bitsLt_bf16_f32) : (⟨S57x1024x4096, .bf16⟩ : BufTy).Contents (Elt F) → (⟨S57x1024x4096, .f32⟩ : BufTy).Contents (Elt F)),
    StableHlo.unary main_arg2 main_v5 (broadcastInDim S1x1x4096 ![2] bcast_S4096_S1x1x4096_2 : (⟨S4096, .f32⟩ : BufTy).Contents (Elt F) → (⟨S1x1x4096, .f32⟩ : BufTy).Contents (Elt F)),
    StableHlo.unary main_v5 main_v6 (broadcastInDim S57x1024x4096 ![0, 1, 2] bcast_S1x1x4096_S57x1024x4096_0_1_2 : (⟨S1x1x4096, .f32⟩ : BufTy).Contents (Elt F) → (⟨S57x1024x4096, .f32⟩ : BufTy).Contents (Elt F)),
    StableHlo.binary main_v4 main_v6 main_v7 (mulf : (⟨S57x1024x4096, .f32⟩ : BufTy).Contents (Elt F) → (⟨S57x1024x4096, .f32⟩ : BufTy).Contents (Elt F) → (⟨S57x1024x4096, .f32⟩ : BufTy).Contents (Elt F)),
    StableHlo.binary main_v7 main_v3 main_v8 (mulf : (⟨S57x1024x4096, .f32⟩ : BufTy).Contents (Elt F) → (⟨S57x1024x4096, .f32⟩ : BufTy).Contents (Elt F) → (⟨S57x1024x4096, .f32⟩ : BufTy).Contents (Elt F)),
    StableHlo.nullary main_cst (constant S_ .f32 0x00000000#32),
    StableHlo.binary main_v8 main_cst main_v9 ((fun x v => Host.reduceAdd x v reducesTo_S57x1024x4096_S57x1024_d2 h_S_) : (⟨S57x1024x4096, .f32⟩ : BufTy).Contents (Elt F) → (⟨S_, .f32⟩ : BufTy).Contents (Elt F) → (⟨S57x1024, .f32⟩ : BufTy).Contents (Elt F)),
    StableHlo.unary main_v9 main_v10 (broadcastInDim S57x1024x1 ![0, 1] bcast_S57x1024_S57x1024x1_0_1 : (⟨S57x1024, .f32⟩ : BufTy).Contents (Elt F) → (⟨S57x1024x1, .f32⟩ : BufTy).Contents (Elt F)),
    StableHlo.nullary main_cst_0 (constant S_ .f32 0x45800000#32),
    StableHlo.unary main_cst_0 main_v11 (broadcastInDim S57x1024x1 ![] bcast_S_S57x1024x1 : (⟨S_, .f32⟩ : BufTy).Contents (Elt F) → (⟨S57x1024x1, .f32⟩ : BufTy).Contents (Elt F)),
    StableHlo.binary main_v10 main_v11 main_v12 (Host.divf : (⟨S57x1024x1, .f32⟩ : BufTy).Contents (Elt F) → (⟨S57x1024x1, .f32⟩ : BufTy).Contents (Elt F) → (⟨S57x1024x1, .f32⟩ : BufTy).Contents (Elt F)),
    StableHlo.unary main_v12 main_v13 (broadcastInDim S57x1024x4096 ![0, 1, 2] bcast_S57x1024x1_S57x1024x4096_0_1_2 : (⟨S57x1024x1, .f32⟩ : BufTy).Contents (Elt F) → (⟨S57x1024x4096, .f32⟩ : BufTy).Contents (Elt F)),
    StableHlo.binary main_v3 main_v13 main_v14 (mulf : (⟨S57x1024x4096, .f32⟩ : BufTy).Contents (Elt F) → (⟨S57x1024x4096, .f32⟩ : BufTy).Contents (Elt F) → (⟨S57x1024x4096, .f32⟩ : BufTy).Contents (Elt F)),
    StableHlo.binary main_v7 main_v14 main_v15 (subf : (⟨S57x1024x4096, .f32⟩ : BufTy).Contents (Elt F) → (⟨S57x1024x4096, .f32⟩ : BufTy).Contents (Elt F) → (⟨S57x1024x4096, .f32⟩ : BufTy).Contents (Elt F)),
    StableHlo.unary main_v0 main_v16 (broadcastInDim S57x1024x4096 ![0, 1, 2] bcast_S57x1024x1_S57x1024x4096_0_1_2 : (⟨S57x1024x1, .f32⟩ : BufTy).Contents (Elt F) → (⟨S57x1024x4096, .f32⟩ : BufTy).Contents (Elt F)),
    StableHlo.binary main_v16 main_v15 main_v17 (mulf : (⟨S57x1024x4096, .f32⟩ : BufTy).Contents (Elt F) → (⟨S57x1024x4096, .f32⟩ : BufTy).Contents (Elt F) → (⟨S57x1024x4096, .f32⟩ : BufTy).Contents (Elt F)),
    StableHlo.binary main_v4 main_v3 main_v18 (mulf : (⟨S57x1024x4096, .f32⟩ : BufTy).Contents (Elt F) → (⟨S57x1024x4096, .f32⟩ : BufTy).Contents (Elt F) → (⟨S57x1024x4096, .f32⟩ : BufTy).Contents (Elt F)) ]
/-- The sum of the products over all rows, and the magnitudes of the gradient. -/
abbrev part2 : List (HloOp τ sig (Elt F)) :=
  [ StableHlo.nullary main_cst_1 (constant S_ .f32 0x00000000#32),
    StableHlo.binary main_v18 main_cst_1 main_v19 ((fun x v => Host.reduceAdd x v reducesTo_S57x1024x4096_S4096_d0_1 h_S_) : (⟨S57x1024x4096, .f32⟩ : BufTy).Contents (Elt F) → (⟨S_, .f32⟩ : BufTy).Contents (Elt F) → (⟨S4096, .f32⟩ : BufTy).Contents (Elt F)),
    StableHlo.unary main_v17 main_v20 (Host.absf : (⟨S57x1024x4096, .f32⟩ : BufTy).Contents (Elt F) → (⟨S57x1024x4096, .f32⟩ : BufTy).Contents (Elt F)) ]
/-- The largest magnitude of each row. -/
abbrev part3 : List (HloOp τ sig (Elt F)) :=
  [ StableHlo.nullary main_cst_2 (constant S_ .f32 0xFF800000#32),
    StableHlo.binary main_v20 main_cst_2 main_v21 ((fun x v => Host.reduce FloatOps.maximumf x v reducesTo_S57x1024x4096_S57x1024_d2 h_S_) : (⟨S57x1024x4096, .f32⟩ : BufTy).Contents (Elt F) → (⟨S_, .f32⟩ : BufTy).Contents (Elt F) → (⟨S57x1024, .f32⟩ : BufTy).Contents (Elt F)) ]
/-- The exponent of the scaled maximum. -/
abbrev part4 : List (HloOp τ sig (Elt F)) :=
  [ StableHlo.unary main_v21 main_v22 (broadcastInDim S57x1024x1 ![0, 1] bcast_S57x1024_S57x1024x1_0_1 : (⟨S57x1024, .f32⟩ : BufTy).Contents (Elt F) → (⟨S57x1024x1, .f32⟩ : BufTy).Contents (Elt F)),
    StableHlo.nullary main_cst_3 (constant S_ .f32 0x37924925#32),
    StableHlo.unary main_cst_3 main_v23 (broadcastInDim S57x1024x1 ![] bcast_S_S57x1024x1 : (⟨S_, .f32⟩ : BufTy).Contents (Elt F) → (⟨S57x1024x1, .f32⟩ : BufTy).Contents (Elt F)),
    StableHlo.binary main_v22 main_v23 main_v24 (mulf : (⟨S57x1024x1, .f32⟩ : BufTy).Contents (Elt F) → (⟨S57x1024x1, .f32⟩ : BufTy).Contents (Elt F) → (⟨S57x1024x1, .f32⟩ : BufTy).Contents (Elt F)),
    StableHlo.unary main_v24 main_v25 (Host.log : (⟨S57x1024x1, .f32⟩ : BufTy).Contents (Elt F) → (⟨S57x1024x1, .f32⟩ : BufTy).Contents (Elt F)),
    StableHlo.nullary main_cst_4 (constant S_ .f32 0x40000000#32),
    StableHlo.unary main_cst_4 main_v26 (Host.log : (⟨S_, .f32⟩ : BufTy).Contents (Elt F) → (⟨S_, .f32⟩ : BufTy).Contents (Elt F)),
    StableHlo.unary main_v26 main_v27 (broadcastInDim S57x1024x1 ![] bcast_S_S57x1024x1 : (⟨S_, .f32⟩ : BufTy).Contents (Elt F) → (⟨S57x1024x1, .f32⟩ : BufTy).Contents (Elt F)),
    StableHlo.binary main_v25 main_v27 main_v28 (Host.divf : (⟨S57x1024x1, .f32⟩ : BufTy).Contents (Elt F) → (⟨S57x1024x1, .f32⟩ : BufTy).Contents (Elt F) → (⟨S57x1024x1, .f32⟩ : BufTy).Contents (Elt F)),
    StableHlo.unary main_v28 main_v29 (Host.floor : (⟨S57x1024x1, .f32⟩ : BufTy).Contents (Elt F) → (⟨S57x1024x1, .f32⟩ : BufTy).Contents (Elt F)),
    StableHlo.nullary main_cst_5 (constant S_ .f32 0x3F800000#32),
    StableHlo.unary main_cst_5 main_v30 (broadcastInDim S57x1024x1 ![] bcast_S_S57x1024x1 : (⟨S_, .f32⟩ : BufTy).Contents (Elt F) → (⟨S57x1024x1, .f32⟩ : BufTy).Contents (Elt F)),
    StableHlo.binary main_v29 main_v30 main_v31 (addf : (⟨S57x1024x1, .f32⟩ : BufTy).Contents (Elt F) → (⟨S57x1024x1, .f32⟩ : BufTy).Contents (Elt F) → (⟨S57x1024x1, .f32⟩ : BufTy).Contents (Elt F)),
    StableHlo.nullary main_cst_6 (constant S_ .f32 0xC2FA0000#32),
    StableHlo.unary main_cst_6 main_v32 (broadcastInDim S57x1024x1 ![] bcast_S_S57x1024x1 : (⟨S_, .f32⟩ : BufTy).Contents (Elt F) → (⟨S57x1024x1, .f32⟩ : BufTy).Contents (Elt F)),
    StableHlo.binary main_v31 main_v32 main_v33 (cmpf .oge : (⟨S57x1024x1, .f32⟩ : BufTy).Contents (Elt F) → (⟨S57x1024x1, .f32⟩ : BufTy).Contents (Elt F) → (⟨S57x1024x1, .i1⟩ : BufTy).Contents (Elt F)),
    StableHlo.nullary main_cst_7 (constant S_ .f32 0x7F800000#32),
    StableHlo.unary main_cst_7 main_v34 (broadcastInDim S57x1024x1 ![] bcast_S_S57x1024x1 : (⟨S_, .f32⟩ : BufTy).Contents (Elt F) → (⟨S57x1024x1, .f32⟩ : BufTy).Contents (Elt F)),
    StableHlo.binary main_v24 main_v34 main_v35 (cmpf .olt : (⟨S57x1024x1, .f32⟩ : BufTy).Contents (Elt F) → (⟨S57x1024x1, .f32⟩ : BufTy).Contents (Elt F) → (⟨S57x1024x1, .i1⟩ : BufTy).Contents (Elt F)),
    StableHlo.binary main_v33 main_v35 main_v36 (andi : (⟨S57x1024x1, .i1⟩ : BufTy).Contents (Elt F) → (⟨S57x1024x1, .i1⟩ : BufTy).Contents (Elt F) → (⟨S57x1024x1, .i1⟩ : BufTy).Contents (Elt F)),
    StableHlo.nullary main_cst_8 (constant S_ .f32 0x43000000#32),
    StableHlo.unary main_cst_8 main_v37 (broadcastInDim S57x1024x1 ![] bcast_S_S57x1024x1 : (⟨S_, .f32⟩ : BufTy).Contents (Elt F) → (⟨S57x1024x1, .f32⟩ : BufTy).Contents (Elt F)),
    StableHlo.binary main_v31 main_v37 main_v38 (minimumf : (⟨S57x1024x1, .f32⟩ : BufTy).Contents (Elt F) → (⟨S57x1024x1, .f32⟩ : BufTy).Contents (Elt F) → (⟨S57x1024x1, .f32⟩ : BufTy).Contents (Elt F)),
    StableHlo.nullary main_cst_9 (constant S_ .f32 0x00000000#32) ]
/-- The operations from the choice of the exponent to the results. -/
abbrev part5 : List (HloOp τ sig (Elt F)) :=
  List.flatten [hostOps0_1, hostOps0_2, hostOps0_3, hostOps0_4, hostOps0_5, hostOps0_6, hostOps0_7, hostOps0_8, hostOps0_9, hostOps0_10, hostOps0_11, hostOps0_12, hostOps0_13, hostOps0_14]

theorem parts : (hostOps0 : List (HloOp τ sig (Elt F))) = part1 ++ (part2 ++ (part3 ++ part4)) := rfl

end

variable (W : Valuation τ sig (Elt Ideal))

/-- The buffers between the stages. -/
abbrev inX (b : Fin 57) (n : Fin 1024) (j : Fin 4096) : EReal := W (Proc.devRef .tc main_arg0) (ix3 b n j)
abbrev inDy (b : Fin 57) (n : Fin 1024) (j : Fin 4096) : EReal := W (Proc.devRef .tc main_arg1) (ix3 b n j)
abbrev inG (j : Fin 4096) : EReal := W (Proc.devRef .tc main_arg2) (ix1 j)
abbrev inR (b : Fin 57) (n : Fin 1024) : EReal := W (Proc.devRef .tc main_arg3) (ix2 b n)
abbrev inDx (b : Fin 57) (n : Fin 1024) (j : Fin 4096) : EReal := W (Proc.devRef .tc main_v17) (ix3 b n j)
abbrev inTop (b : Fin 57) (n : Fin 1024) : EReal := W (Proc.devRef .tc main_v21) (ix2 b n)
abbrev inTop1 (b : Fin 57) (n : Fin 1024) : EReal := W (Proc.devRef .tc main_v22) (ix3 b n 0)
abbrev inOk (b : Fin 57) (n : Fin 1024) : BitVec 1 := W (Proc.devRef .tc main_v36) (ix3 b n 0)
abbrev inExp (b : Fin 57) (n : Fin 1024) : EReal := W (Proc.devRef .tc main_v38) (ix3 b n 0)

theorem gradient (b : Fin 57) (n : Fin 1024) (j : Fin 4096) : after (part1 (F := Ideal)) W (Proc.devRef .tc main_v17) (ix3 b n j)
    = RefMath.refDx (inX W b n) (inDy W b n) (inG W) (inR W b n) j := by
  after_reads_at
  rfl

theorem products (b : Fin 57) (n : Fin 1024) (j : Fin 4096) : after (part1 (F := Ideal)) W (Proc.devRef .tc main_v18) (ix3 b n j)
    = inDy W b n j * (inX W b n j * inR W b n) := by
  after_reads_at

theorem magnitude (b : Fin 57) (n : Fin 1024) (j : Fin 4096) : after (part2 (F := Ideal)) W (Proc.devRef .tc main_v20) (ix3 b n j)
    = max (inDx W b n j) (-inDx W b n j) := by
  after_reads_at
  rfl
theorem part2_v17 : after (part2 (F := Ideal)) W (Proc.devRef .tc main_v17) = W (Proc.devRef .tc main_v17) := by
  after_reads_simp
theorem part2_v19 : after (part2 (F := Ideal)) W (Proc.devRef .tc main_v19) = Host.reduceAdd (F := Ideal) (W (Proc.devRef .tc main_v18)) (constant S_ .f32 0x00000000#32) reducesTo_S57x1024x4096_S4096_d0_1 h_S_ := by
  after_reads_simp

theorem part3_v21 : after (part3 (F := Ideal)) W (Proc.devRef .tc main_v21) = Host.reduce (FloatOps.maximumf (F := Ideal) (φ := .f32)) (W (Proc.devRef .tc main_v20)) (constant (F := Ideal) S_ .f32 0xFF800000#32) reducesTo_S57x1024x4096_S57x1024_d2 h_S_ := by
  after_reads_simp
theorem part3_v17 : after (part3 (F := Ideal)) W (Proc.devRef .tc main_v17) = W (Proc.devRef .tc main_v17) := by
  after_reads_simp
theorem part3_v19 : after (part3 (F := Ideal)) W (Proc.devRef .tc main_v19) = W (Proc.devRef .tc main_v19) := by
  after_reads_simp

theorem part4_v17 : after (part4 (F := Ideal)) W (Proc.devRef .tc main_v17) = W (Proc.devRef .tc main_v17) := by
  after_reads_simp
theorem part4_v19 : after (part4 (F := Ideal)) W (Proc.devRef .tc main_v19) = W (Proc.devRef .tc main_v19) := by
  after_reads_simp
theorem part4_cst9 : after (part4 (F := Ideal)) W (Proc.devRef .tc main_cst_9) = constant (F := Ideal) S_ .f32 0x00000000#32 := by
  after_reads_simp
theorem part4_v22 (b : Fin 57) (n : Fin 1024) : after (part4 (F := Ideal)) W (Proc.devRef .tc main_v22) (ix3 b n 0) = inTop W b n := by
  after_reads_at
theorem part4_v36 (b : Fin 57) (n : Fin 1024) : after (part4 (F := Ideal)) W (Proc.devRef .tc main_v36) (ix3 b n 0)
    = IntOp.andi (BitVec.ofBool (decide (Ideal.ofBits .f32 0xC2FA0000#32 ≤ RefMath.logExp (inTop W b n * Ideal.ofBits .f32 0x37924925#32))))
        (BitVec.ofBool (decide (inTop W b n * Ideal.ofBits .f32 0x37924925#32 < Ideal.ofBits .f32 0x7F800000#32))) := by
  after_reads_at
  rfl
theorem part4_v38 (b : Fin 57) (n : Fin 1024) : after (part4 (F := Ideal)) W (Proc.devRef .tc main_v38) (ix3 b n 0)
   = min (RefMath.logExp (inTop W b n * Ideal.ofBits .f32 0x37924925#32)) (Ideal.ofBits .f32 0x43000000#32) := by
  after_reads_at
  rfl
theorem part5_v63 (j : Fin 4096) : after (part5 (F := Ideal)) W (Proc.devRef .tc main_v63) (ix2 0 j) = (W (Proc.devRef .tc main_v19) (ix1 j) : EReal) := by
  after_reads_at

/-- The exponent that the last stage reads. -/
def expOf (b : Fin 57) (n : Fin 1024) : EReal :=
  if inTop1 W b n = 0 then Ideal.ofBits .f32 0x00000000#32 else Scalar.select (inOk W b n) (inExp W b n) (W (Proc.devRef .tc main_cst_9) ix0)

theorem part5_v64 (b : Fin 57) (n : Fin 1024) : after (part5 (F := Ideal)) W (Proc.devRef .tc main_v64) (ix3 b 0 n) = RefMath.ldexp1 (expOf W b n) := by
  after_reads_at
  rfl

theorem part5_v62 (b : Fin 57) (n : Fin 1024) (j : Fin 4096) : after (part5 (F := Ideal)) W (Proc.devRef .tc main_v62) (ix3 b n j)
    = min (Ideal.ofBits .f32 0x47600000#32) (max (Ideal.ofBits .f32 0xC7600000#32) (inDx W b n j * RefMath.ldexp1 (-expOf W b n))) := by
  after_reads_at
  rfl

/-! ## The stages together -/

section
variable (m : (ℓ : Loc nD τ sig) → Buf (Elt Ideal) ℓ) (c : Dev nD)

/-- The buffers' contents at the start, and after each of the first four stages. -/
abbrev m0 : Valuation τ sig (Elt Ideal) := fun b => m (c, b)
abbrev m1 : Valuation τ sig (Elt Ideal) := after (part1 (F := Ideal)) (m0 m c)
abbrev m2 : Valuation τ sig (Elt Ideal) := after (part2 (F := Ideal)) (m1 m c)
abbrev m3 : Valuation τ sig (Elt Ideal) := after (part3 (F := Ideal)) (m2 m c)
abbrev m4 : Valuation τ sig (Elt Ideal) := after (part4 (F := Ideal)) (m3 m c)

theorem V_eq (b : Ref sig .tc) : V m c b = after (part5 (F := Ideal)) (m4 m c) (Proc.devRef .tc b) := by
  show after (hostOps0 ++ part5) (m0 m c) (Proc.devRef .tc b) = _
  rw [parts, after_append, after_append, after_append, after_append]

/-- The four arguments by their rows. -/
def aX (b : Fin 57) (n : Fin 1024) (j : Fin 4096) : EReal := inX (m0 m c) b n j
def aDy (b : Fin 57) (n : Fin 1024) (j : Fin 4096) : EReal := inDy (m0 m c) b n j
def aG (j : Fin 4096) : EReal := inG (m0 m c) j
def aR (b : Fin 57) (n : Fin 1024) : EReal := inR (m0 m c) b n

theorem m4_dx (b : Fin 57) (n : Fin 1024) (j : Fin 4096) : inDx (m4 m c) b n j = RefMath.refDx (aX m c b n) (aDy m c b n) (aG m c) (aR m c b n) j := by
  show after (part4 (F := Ideal)) (m3 m c) (Proc.devRef .tc main_v17) (ix3 b n j) = _
  refine (congrFun ((part4_v17 (m3 m c)).trans ((part3_v17 (m2 m c)).trans (part2_v17 (m1 m c)))) (ix3 b n j)).trans ?_
  exact gradient (m0 m c) b n j

theorem drop_row (b : Fin 57) (n : Fin 1024) (v : FVec Ideal S57x1024x4096 .f32) :
    Host.reduce (FloatOps.maximumf (F := Ideal) (φ := .f32)) v (constant (F := Ideal) S_ .f32 0xFF800000#32) reducesTo_S57x1024x4096_S57x1024_d2 h_S_ (ix2 b n)
      = (Finset.univ : Finset (Fin 4096)).fold max (Ideal.ofBits .f32 0xFF800000#32) fun j => v (ix3 b n j) := by
  pointwise

theorem m3_top (b : Fin 57) (n : Fin 1024) : inTop (m3 m c) b n = RefMath.refTop (aX m c b n) (aDy m c b n) (aG m c) (aR m c b n) := by
  show after (part3 (F := Ideal)) (m2 m c) (Proc.devRef .tc main_v21) (ix2 b n) = _
  rw [part3_v21, drop_row]
  unfold RefMath.refTop
  congr 1
  funext j
  refine (magnitude (m1 m c) b n j).trans ?_
  rw [show inDx (m1 m c) b n j = _ from gradient (m0 m c) b n j]
  rfl

theorem m4_exp (b : Fin 57) (n : Fin 1024) : expOf (m4 m c) b n = RefMath.refExp (RefMath.refTop (aX m c b n) (aDy m c b n) (aG m c) (aR m c b n)) := by
  unfold expOf RefMath.refExp RefMath.frexpE
  rw [show inTop1 (m4 m c) b n = _ from part4_v22 (m3 m c) b n, show inOk (m4 m c) b n = _ from part4_v36 (m3 m c) b n,
    show inExp (m4 m c) b n = _ from part4_v38 (m3 m c) b n, show (m4 m c) (Proc.devRef .tc main_cst_9) = _ from part4_cst9 (m3 m c), m3_top]
  generalize RefMath.refTop (aX m c b n) (aDy m c b n) (aG m c) (aR m c b n) = a
  congr 1
  unfold Scalar.select IntOp.andi
  by_cases h1 : Ideal.ofBits .f32 0xC2FA0000#32 ≤ RefMath.logExp (a * Ideal.ofBits .f32 0x37924925#32) <;>
    by_cases h2 : a * Ideal.ofBits .f32 0x37924925#32 < Ideal.ofBits .f32 0x7F800000#32 <;> simp [h1, h2] <;> exact Ideal.ofBits_zero_f32

/-- The scale. -/
theorem scale_at (b : Fin 57) (n : Fin 1024) : V m c main_v64 (ix3 b 0 n) = RefMath.refScale (aX m c b n) (aDy m c b n) (aG m c) (aR m c b n) := by
  rw [V_eq, part5_v64, m4_exp]
  rfl

/-- The clamped quotient. -/
theorem code_at (b : Fin 57) (n : Fin 1024) (j : Fin 4096) : V m c main_v62 (ix3 b n j) = RefMath.refCode (aX m c b n) (aDy m c b n) (aG m c) (aR m c b n) j := by
  rw [V_eq, part5_v62, m4_exp, m4_dx]
  rfl

theorem sum_rows (v : FVec Ideal S57x1024x4096 .f32) (j : Fin 4096) :
    Host.reduceAdd (F := Ideal) v (constant S_ .f32 0x00000000#32) reducesTo_S57x1024x4096_S4096_d0_1 h_S_ (ix1 j)
      = ∑ k : Fin 57 × Fin 1024, v (ix3 k.1 k.2 j) := by
  show Ideal.ofBits .f32 0x00000000#32 + ∑ i ∈ Finset.univ.filter (fun i => reducesTo_S57x1024x4096_S4096_d0_1.drop i = ix1 j), v i = _
  rw [Ideal.ofBits_zero_f32, zero_add]
  refine Finset.sum_nbij' (fun i => (i 0, i 1)) (fun k => ix3 k.1 k.2 j) ?_ ?_ ?_ ?_ ?_
  · intro i _; exact Finset.mem_univ _
  · intro k _
    refine Finset.mem_filter.mpr ⟨Finset.mem_univ _, ?_⟩
    funext a
    match a with
    | ⟨0, _⟩ => rfl
  · intro i hi
    have h := congrFun (Finset.mem_filter.mp hi).2 0
    have h2 : i 2 = j := h
    subst h2
    exact (eq_ix3 i).symm
  · intro k _; rfl
  · intro i hi
    have h := congrFun (Finset.mem_filter.mp hi).2 0
    have h2 : i 2 = j := h
    subst h2
    exact congrArg v (eq_ix3 i)

/-- The gain's gradient. -/
theorem dgamma_at (j : Fin 4096) : V m c main_v63 (ix2 0 j) = ∑ k : Fin 57 × Fin 1024, aDy m c k.1 k.2 j * (aX m c k.1 k.2 j * aR m c k.1 k.2) := by
  rw [V_eq, part5_v63]
  show after (part4 (F := Ideal)) (m3 m c) (Proc.devRef .tc main_v19) (ix1 j) = _
  refine (congrFun ((part4_v19 (m3 m c)).trans ((part3_v19 (m2 m c)).trans (part2_v19 (m1 m c)))) (ix1 j)).trans ?_
  refine (sum_rows _ j).trans ?_
  exact Finset.sum_congr (M := EReal) rfl fun k _ => products (m0 m c) k.1 k.2 j
end

end Cert.ReferenceIdeal.Host

end
-- ==== Proof.RefArrays.lean ====
module

public import proofs.«01_k».proof.Proof.RefHost

@[expose] public section

set_option maxRecDepth 16384

/-! The reference's three results as functions of their indices, and its run. -/

noncomputable section

namespace Cert.ReferenceIdeal.Host

open Idealize.ShloMosaic Idealize.ShloMosaic.TcCoe
open Idealize.SL Idealize.SL.Sem
open Cert.ReferenceIdeal Cert.ReferenceIdeal.Gen
open Idealize.ShloMosaic.Pipeline (Dat Cfg Window)

variable (m : (ℓ : Loc nD τ sig) → Buf (Elt Ideal) ℓ) (ρ : Dev nD → PrngReg) (c : Dev nD)

theorem in_emb (t : Fin cfg0.N) (y : S57x1024x4096.Idx) : (((cfg0.win 0).blk t).view.emb y : S57x1024x4096.Idx) = y := by
  obtain rfl := fin_N0 t
  refine funext fun a => Fin.ext ?_
  refine (Window.rect_emb_val win0_0 t0_0 y a).trans ?_
  rw [show win0_0.index t0_0 = ![0, 0, 0] from by decide +kernel]
  match a with
  | 0 => show 0 * 57 + (y 0).val = (y 0).val; omega
  | 1 => show 0 * 1024 + (y 1).val = (y 1).val; omega
  | 2 => show 0 * 4096 + (y 2).val = (y 2).val; omega
theorem out_emb (t : Fin cfg0.N) (y : S57x1024x4096.Idx) : (((cfg0.win 1).blk t).view.emb y : S57x1024x4096.Idx) = y := by
  obtain rfl := fin_N0 t
  refine funext fun a => Fin.ext ?_
  refine (Window.rect_emb_val win0_1 t0_0 y a).trans ?_
  rw [show win0_1.index t0_0 = ![0, 0, 0] from by decide +kernel]
  match a with
  | 0 => show 0 * 57 + (y 0).val = (y 0).val; omega
  | 1 => show 0 * 1024 + (y 1).val = (y 1).val; omega
  | 2 => show 0 * 4096 + (y 2).val = (y 2).val; omega

/-- The cast leaves every value as it is. -/
theorem cast_at (x : Vec Ideal S57x1024x4096 .f32) (b : Fin 57) (n : Fin 1024) (j : Fin 4096) :
    (out0_1 x : Vec Ideal S57x1024x4096 .fp8e5m2) (ix3 b n j) = (x (ix3 b n j) : EReal) := by
  unfold out0_1
  refine (Value.canon1_eq (F := Ideal) (View.ld x r0_0) (ix3 b n j)).trans ?_
  show x (r0_0.idx (Value.ix1_0 (ix3 b n j))) = x (ix3 b n j)
  refine congrArg x (funext fun a => Fin.ext ?_)
  match a with
  | 0 => show 0 + 1 * b.val = b.val; omega
  | 1 => show 0 + 1 * n.val = n.val; omega
  | 2 => show 0 + 1 * j.val = j.val; omega

/-- The cast's input block is the whole clamped quotient, whatever the buffers hold. -/
theorem block_read (W : (b : Ref sig .tc) → Buf (Elt Ideal) ((c : Thread nD τ).loc b)) (t : Fin cfg0.N) (y : S57x1024x4096.Idx) :
    (((cfg0.win 0).blk t).view.read (Elt Ideal) (W (Pipeline.arrRef spec0 0)) : Vec Ideal S57x1024x4096 .f32) y
      = (W main_v62 : Vec Ideal S57x1024x4096 .f32) y :=
  congrArg (W main_v62 : Vec Ideal S57x1024x4096 .f32) (in_emb t y)

/-- The codes, as the cast leaves them. -/
abbrev codes : Vec Ideal S57x1024x4096 .fp8e5m2 := fun y =>
  RefMath.refCode (aX m c (y 0) (y 1)) (aDy m c (y 0) (y 1)) (aG m c) (aR m c (y 0) (y 1)) (y 2)

theorem codes_array : (dats m 0 c).arrAt 1 cfg0.N = codes m c := by
  refine (dats m 0 c).arrAt_eq_of_cover 1 (codes m c) ?_ ?_
  · intro t _
    funext y
    obtain ⟨b, n, j, rfl⟩ : ∃ b n j, y = (ix3 b n j : S57x1024x4096.Idx) := ⟨y 0, y 1, y 2, eq_ix3 y⟩
    refine Eq.trans ?_ (congrArg (codes m c) (out_emb t (ix3 b n j))).symm
    refine (congrFun (after0_1 m c t) (ix3 b n j)).trans ?_
    refine (cast_at (iblk m c 0 t) b n j).trans ?_
    refine Eq.trans ?_ (code_at m c b n j)
    unfold iblk
    exact block_read c (V m c) t (ix3 b n j)
  · intro y
    refine ⟨t0_0, flush0_1 _, ?_⟩
    have h := ((cfg0.win 1).blk t0_0).view.emb_mem_set y
    rw [out_emb] at h
    exact h

abbrev scales : Vec Ideal S57x1x1024 .f32 := fun y =>
  RefMath.refScale (aX m c (y 0) (y 2)) (aDy m c (y 0) (y 2)) (aG m c) (aR m c (y 0) (y 2))

theorem scales_array : V m c main_v64 = scales m c := by
  funext y
  obtain ⟨b, o, n, rfl⟩ : ∃ b o n, y = (ix3 b o n : S57x1x1024.Idx) := ⟨y 0, y 1, y 2, eq_ix3 y⟩
  obtain rfl : o = 0 := Subsingleton.elim _ _
  exact scale_at m c b n

abbrev dgamma : Vec Ideal S1x4096 .f32 := fun y =>
  (∑ k : Fin 57 × Fin 1024, aDy m c k.1 k.2 (y 1) * (aX m c k.1 k.2 (y 1) * aR m c k.1 k.2) : EReal)

theorem dgamma_array : V m c main_v63 = dgamma m c := by
  funext y
  obtain ⟨o, j, rfl⟩ : ∃ o j, y = (ix2 o j : S1x4096.Idx) := ⟨y 0, y 1, eq_ix2 y⟩
  obtain rfl : o = 0 := Subsingleton.elim _ _
  exact dgamma_at m c j

/-- The reference's run: the three results, the arguments unchanged. -/
theorem run_results : θ_run defs (onTc (τ := τ) (main (F := Ideal))) ⟨m, fun _ => 0, ρ⟩ fun r => ∀ c : Dev nD,
      r.2.mem ((c : Thread nD τ).loc main_v63) = dgamma m c
      ∧ r.2.mem ((c : Thread nD τ).loc main_v65) = codes m c
      ∧ r.2.mem ((c : Thread nD τ).loc main_v64) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v63 (Pipeline.mem_restRefs_of main_v63 (by decide) (by decide))).trans (dgamma_array m c),
      (Value.post1 m r h c).trans (codes_array m c),
      ((h c).2 main_v64 (Pipeline.mem_restRefs_of main_v64 (by decide) (by decide))).trans (scales_array m c),
      Value.kept_main_arg0 m r h c,
      Value.kept_main_arg1 m r h c,
      Value.kept_main_arg2 m r h c,
      Value.kept_main_arg3 m r h c⟩)
    (run_main m ρ)

end Cert.ReferenceIdeal.Host

end
-- ==== Proof.Algebraic.lean ====
module

public import proofs.«01_k».proof.Defs
public import proofs.«01_k».proof.Proof.KernelArrays
public import proofs.«01_k».proof.Proof.RefArrays

@[expose] public section

set_option maxRecDepth 16384

/-! The kernel and the reference leave the same three results. -/

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the arguments of one device. -/
structure Agree (c : Dev Cert.KernelIdeal.nD) : Prop where
  x : Cert.ReferenceIdeal.Host.aX m' c = Cert.KernelIdeal.Gen.kX m c
  dy : Cert.ReferenceIdeal.Host.aDy m' c = Cert.KernelIdeal.Gen.kDy m c
  g : Cert.ReferenceIdeal.Host.aG m' c = Cert.KernelIdeal.Gen.kG m c
  r : Cert.ReferenceIdeal.Host.aR m' c = Cert.KernelIdeal.Gen.kR m c

theorem dgamma_eq (c : Dev Cert.KernelIdeal.nD) (h : Agree m m' c) :
    Cert.ReferenceIdeal.Host.dgamma m' c = Cert.KernelIdeal.Gen.dgamma m c := by
  unfold Cert.ReferenceIdeal.Host.dgamma
  rw [h.x, h.dy, h.r]
theorem codes_eq (c : Dev Cert.KernelIdeal.nD) (h : Agree m m' c) :
    Cert.ReferenceIdeal.Host.codes m' c = Cert.KernelIdeal.Gen.codes m c := by
  unfold Cert.ReferenceIdeal.Host.codes
  rw [h.x, h.dy, h.g, h.r]
theorem scales_eq (c : Dev Cert.KernelIdeal.nD) (h : Agree m m' c) :
    Cert.ReferenceIdeal.Host.scales m' c = Cert.KernelIdeal.Gen.scales m c := by
  unfold Cert.ReferenceIdeal.Host.scales
  rw [h.x, h.dy, h.g, h.r]

theorem algebraic : Cert.algebraic_KernelIdeal_ReferenceIdeal (hKernelIdeal := Cert.KernelIdeal.Gen.facts)
    (hReferenceIdeal := Cert.ReferenceIdeal.Gen.facts) := by
  intro m g m' g' _ hargs
  have ha : ∀ c, Agree m m' c := fun c => by
    obtain ⟨h0, h1, h2, h3⟩ := hargs c
    exact ⟨funext fun b => funext fun n => funext fun j => congrFun h0 (ix3 b n j),
      funext fun b => funext fun n => funext fun j => congrFun h1 (ix3 b n j),
      funext fun j => congrFun h2 (ix1 j),
      funext fun b => funext fun n => congrFun h3 (ix2 b n)⟩
  refine ⟨fun c => Cert.KernelIdeal.Gen.dgamma m c, fun c => Cert.KernelIdeal.Gen.codes m c, fun c => Cert.KernelIdeal.Gen.scales m c,
    Cert.KernelIdeal.Gen.run_results m g, ?_⟩
  refine (θ_run Cert.ReferenceIdeal.defs _ _).mono (fun r h c => ?_) (Cert.ReferenceIdeal.Host.run_results m' g')
  obtain ⟨h0, h1, h2, hk⟩ := h c
  exact ⟨h0.trans (dgamma_eq m m' c (ha c)), h1.trans (codes_eq m m' c (ha c)), h2.trans (scales_eq m m' c (ha c)), hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, Cert.Proof.algebraic⟩

end Cert.Proof

end
